-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S4x256x128 : Shape := ⟨3, ![4, 256, 128]⟩
abbrev S4x32x256x128 : Shape := ⟨4, ![4, 32, 256, 128]⟩
abbrev S4x32 : Shape := ⟨2, ![4, 32]⟩
abbrev S128x128 : Shape := ⟨2, ![128, 128]⟩
abbrev S128 : Shape := ⟨1, ![128]⟩
abbrev S5 : Shape := ⟨1, ![5]⟩
abbrev S256 : Shape := ⟨1, ![256]⟩
abbrev S1x256 : Shape := ⟨2, ![1, 256]⟩
abbrev S5x1 : Shape := ⟨2, ![5, 1]⟩
abbrev S5x256 : Shape := ⟨2, ![5, 256]⟩
abbrev S_ : Shape := ⟨0, ![]⟩
abbrev S5x256x1 : Shape := ⟨3, ![5, 256, 1]⟩
abbrev S4x32x5x256x128 : Shape := ⟨5, ![4, 32, 5, 256, 128]⟩
abbrev S4x256x32x5x128 : Shape := ⟨5, ![4, 256, 32, 5, 128]⟩
abbrev S1x1x128 : Shape := ⟨3, ![1, 1, 128]⟩
abbrev S1x1x1x1x128 : Shape := ⟨5, ![1, 1, 1, 1, 128]⟩
abbrev S4x256x32x5 : Shape := ⟨4, ![4, 256, 32, 5]⟩
abbrev S256x5 : Shape := ⟨2, ![256, 5]⟩
abbrev S1x256x1x5 : Shape := ⟨4, ![1, 256, 1, 5]⟩
abbrev S4x1x32x1 : Shape := ⟨4, ![4, 1, 32, 1]⟩
abbrev S4x256x160 : Shape := ⟨3, ![4, 256, 160]⟩
abbrev S4x256x9 : Shape := ⟨3, ![4, 256, 9]⟩
abbrev S4x256x8 : Shape := ⟨3, ![4, 256, 8]⟩
abbrev S4x256x1 : Shape := ⟨3, ![4, 256, 1]⟩

class Facts : Prop where
  bcast_S256_S1x256_1 : S256.BroadcastsInDim S1x256 (![1] : Fin 1 → Fin S1x256.rank)
  bcast_S5_S5x1_0 : S5.BroadcastsInDim S5x1 (![0] : Fin 1 → Fin S5x1.rank)
  bcast_S1x256_S5x256_0_1 : S1x256.BroadcastsInDim S5x256 (![0, 1] : Fin 2 → Fin S5x256.rank)
  bcast_S5x1_S5x256_0_1 : S5x1.BroadcastsInDim S5x256 (![0, 1] : Fin 2 → Fin S5x256.rank)
  bcast_S_S5x256 : S_.BroadcastsInDim S5x256 (![] : Fin 0 → Fin S5x256.rank)
  bcast_S5x256_S5x256x1_0_1 : S5x256.BroadcastsInDim S5x256x1 (![0, 1] : Fin 2 → Fin S5x256x1.rank)
  transposes_S4x32x5x256x128_S4x256x32x5x128_0_3_1_2_4 : S4x32x5x256x128.Transposes [0, 3, 1, 2, 4] S4x256x32x5x128
  transposes_S128x128_S128x128_1_0 : S128x128.Transposes [1, 0] S128x128
  bcast_S128_S1x1x128_2 : S128.BroadcastsInDim S1x1x128 (![2] : Fin 1 → Fin S1x1x128.rank)
  bcast_S1x1x128_S4x256x128_0_1_2 : S1x1x128.BroadcastsInDim S4x256x128 (![0, 1, 2] : Fin 3 → Fin S4x256x128.rank)
  bcast_S128_S1x1x1x1x128_4 : S128.BroadcastsInDim S1x1x1x1x128 (![4] : Fin 1 → Fin S1x1x1x1x128.rank)
  bcast_S1x1x1x1x128_S4x256x32x5x128_0_1_2_3_4 : S1x1x1x1x128.BroadcastsInDim S4x256x32x5x128 (![0, 1, 2, 3, 4] : Fin 5 → Fin S4x256x32x5x128.rank)
  bcast_S_S4x256x32x5 : S_.BroadcastsInDim S4x256x32x5 (![] : Fin 0 → Fin S4x256x32x5.rank)
  transposes_S5x256_S256x5_1_0 : S5x256.Transposes [1, 0] S256x5
  bcast_S256x5_S1x256x1x5_1_3 : S256x5.BroadcastsInDim S1x256x1x5 (![1, 3] : Fin 2 → Fin S1x256x1x5.rank)
  bcast_S1x256x1x5_S4x256x32x5_0_1_2_3 : S1x256x1x5.BroadcastsInDim S4x256x32x5 (![0, 1, 2, 3] : Fin 4 → Fin S4x256x32x5.rank)
  bcast_S4x32_S4x1x32x1_0_2 : S4x32.BroadcastsInDim S4x1x32x1 (![0, 2] : Fin 2 → Fin S4x1x32x1.rank)
  bcast_S4x1x32x1_S4x256x32x5_0_1_2_3 : S4x1x32x1.BroadcastsInDim S4x256x32x5 (![0, 1, 2, 3] : Fin 4 → Fin S4x256x32x5.rank)
  shapeCasts_S4x256x32x5_S4x256x160 : S4x256x32x5.ShapeCasts S4x256x160
  sliceFits_S4x256x160_S4x256x9 : S4x256x160.Slices (fun _ => 0) S4x256x9
  slices_S4x256x9_S4x256x8_0_0_0 : S4x256x9.Slices ![0, 0, 0] S4x256x8
  slices_S4x256x9_S4x256x8_0_0_1 : S4x256x9.Slices ![0, 0, 1] S4x256x8
  bcast_S_S4x256x8 : S_.BroadcastsInDim S4x256x8 (![] : Fin 0 → Fin S4x256x8.rank)
  reducesTo_S4x256x8_S_d0_1_2 : S4x256x8.ReducesTo [0, 1, 2] S_
  h_S_ : 0 < S_.numel
  slices_S4x256x8_S4x256x1_0_0_0 : S4x256x8.Slices ![0, 0, 0] S4x256x1
  bcast_S_S4x256x1 : S_.BroadcastsInDim S4x256x1 (![] : Fin 0 → Fin S4x256x1.rank)
  bcast_S4x256x1_S4x256x8_0_1_2 : S4x256x1.BroadcastsInDim S4x256x8 (![0, 1, 2] : Fin 3 → Fin S4x256x8.rank)
  gather_S4x32x256x128_S5x256x1_S4x32x5x256x128_014_2_n_n_2_2_4321128_wf : GatherDims.WF S4x32x256x128 S5x256x1 S4x32x5x256x128 [0, 1, 4] [2] [] [2] [] 2 ![4, 32, 1, 128]
  dot_S4x256x128_S128x128_S4x256x128_2_0_01_1_n_n_wf : DotDims.WF S4x256x128 S128x128 S4x256x128 [2] [0] [0, 1] [1] [] []
  dot_S4x256x32x5x128_S128x128_S4x256x32x5x128_4_0_0123_1_n_n_wf : DotDims.WF S4x256x32x5x128 S128x128 S4x256x32x5x128 [4] [0] [0, 1, 2, 3] [1] [] []
  dot_S4x256x128_S4x256x32x5x128_S4x256x32x5_2_4_n_23_01_01_wf : DotDims.WF S4x256x128 S4x256x32x5x128 S4x256x32x5 [2] [4] [] [2, 3] [0, 1] [0, 1]

variable [Facts]

def gather_S4x32x256x128_S5x256x1_S4x32x5x256x128_014_2_n_n_2_2_4321128 : GatherDims S4x32x256x128 S5x256x1 S4x32x5x256x128 where
  offsetDims := [0, 1, 4]
  collapsedSliceDims := [2]
  operandBatchingDims := []
  startIndicesBatchingDims := []
  startIndexMap := [2]
  indexVectorDim := 2
  sliceSizes := ![4, 32, 1, 128]
  wf := gather_S4x32x256x128_S5x256x1_S4x32x5x256x128_014_2_n_n_2_2_4321128_wf
def dot_S4x256x128_S128x128_S4x256x128_2_0_01_1_n_n : DotDims S4x256x128 S128x128 S4x256x128 where
  lhsContracting := [2]
  rhsContracting := [0]
  lhsNonContracting := [0, 1]
  rhsNonContracting := [1]
  lhsBatch := []
  rhsBatch := []
  wf := dot_S4x256x128_S128x128_S4x256x128_2_0_01_1_n_n_wf
def dot_S4x256x32x5x128_S128x128_S4x256x32x5x128_4_0_0123_1_n_n : DotDims S4x256x32x5x128 S128x128 S4x256x32x5x128 where
  lhsContracting := [4]
  rhsContracting := [0]
  lhsNonContracting := [0, 1, 2, 3]
  rhsNonContracting := [1]
  lhsBatch := []
  rhsBatch := []
  wf := dot_S4x256x32x5x128_S128x128_S4x256x32x5x128_4_0_0123_1_n_n_wf
def dot_S4x256x128_S4x256x32x5x128_S4x256x32x5_2_4_n_23_01_01 : DotDims S4x256x128 S4x256x32x5x128 S4x256x32x5 where
  lhsContracting := [2]
  rhsContracting := [4]
  lhsNonContracting := []
  rhsNonContracting := [2, 3]
  lhsBatch := [0, 1]
  rhsBatch := [0, 1]
  wf := dot_S4x256x128_S4x256x32x5x128_S4x256x32x5_2_4_n_23_01_01_wf

noncomputable abbrev lit0 : Fin 5 → BitVec 32 := fun
  | 0 => 1#32 | 1 => 5#32 | 2 => 10#32 | 3 => 21#32 | 4 => 30#32
  | _ => 0#32

def fn_clip {F : FTy → Type} [FloatOps F] (arg0 : IVec S5x256 32) (arg1 : IVec S_ 32) : IVec S5x256 32 :=
  let v0 : IVec S_ 32 := id arg1
  let v1 : IVec S5x256 32 := broadcastInDim S5x256 ![] bcast_S_S5x256 v0
  let v2 : IVec S5x256 32 := maxsi v1 arg0
  v2

def fn_where {F : FTy → Type} [FloatOps F] (arg0 : IVec S1x256x1x5 1) (arg1 : FVec F S4x256x32x5 .f32) (arg2 : FVec F S_ .f32) : FVec F S4x256x32x5 .f32 :=
  let v0 : FVec F S_ .f32 := id arg2
  let v1 : IVec S4x256x32x5 1 := broadcastInDim S4x256x32x5 ![0, 1, 2, 3] bcast_S1x256x1x5_S4x256x32x5_0_1_2_3 arg0
  let v2 : FVec F S4x256x32x5 .f32 := broadcastInDim S4x256x32x5 ![] bcast_S_S4x256x32x5 v0
  let v3 : FVec F S4x256x32x5 .f32 := select v1 arg1 v2
  v3

def fn_where_0 {F : FTy → Type} [FloatOps F] (arg0 : IVec S4x1x32x1 1) (arg1 : FVec F S4x256x32x5 .f32) (arg2 : FVec F S_ .f32) : FVec F S4x256x32x5 .f32 :=
  let v0 : FVec F S_ .f32 := id arg2
  let v1 : IVec S4x256x32x5 1 := broadcastInDim S4x256x32x5 ![0, 1, 2, 3] bcast_S4x1x32x1_S4x256x32x5_0_1_2_3 arg0
  let v2 : FVec F S4x256x32x5 .f32 := broadcastInDim S4x256x32x5 ![] bcast_S_S4x256x32x5 v0
  let v3 : FVec F S4x256x32x5 .f32 := select v1 arg1 v2
  v3

def fn_part2 {F : FTy → Type} [FloatOps F] (main_values : FVec F S4x256x9 .f32) (main_v37 : FVec F S4x256x8 .f32) : IVec S_ 1 :=
  let main_v38 : FVec F S4x256x8 .f32 := (extractStridedSlice S4x256x8 ![0, 0, 1] · slices_S4x256x9_S4x256x8_0_0_1) main_values
  let main_cst_6 : FVec F S_ .f32 := constant S_ .f32 0x7F800000#32
  let main_v39 : FVec F S4x256x8 .f32 := broadcastInDim S4x256x8 ![] bcast_S_S4x256x8 main_cst_6
  let main_v40 : IVec S4x256x8 1 := cmpf .olt main_v37 main_v39
  let main_c_7 : IVec S_ 1 := constantI S_ 1 1#1
  let main_v41 : IVec S_ 1 := (fun x v => Host.reduce IntOp.andi x v reducesTo_S4x256x8_S_d0_1_2 h_S_) main_v40 main_c_7
  let main_v42 : IVec S4x256x8 1 := cmpf .ogt main_v37 main_v38
  let main_v43 : FVec F S4x256x1 .f32 := (extractStridedSlice S4x256x1 ![0, 0, 0] · slices_S4x256x8_S4x256x1_0_0_0) main_v37
  let main_cst_8 : FVec F S_ .f32 := constant S_ .f32 0xFF800000#32
  let main_v44 : FVec F S4x256x1 .f32 := broadcastInDim S4x256x1 ![] bcast_S_S4x256x1 main_cst_8
  let main_v45 : IVec S4x256x1 1 := cmpf .oeq main_v43 main_v44
  let main_v46 : IVec S4x256x8 1 := broadcastInDim S4x256x8 ![0, 1, 2] bcast_S4x256x1_S4x256x8_0_1_2 main_v45
  let main_v47 : IVec S4x256x8 1 := ori main_v42 main_v46
  let main_c_9 : IVec S_ 1 := constantI S_ 1 1#1
  let main_v48 : IVec S_ 1 := (fun x v => Host.reduce IntOp.andi x v reducesTo_S4x256x8_S_d0_1_2 h_S_) main_v47 main_c_9
  let main_v49 : IVec S_ 1 := andi main_v41 main_v48
  main_v49

def fn_part1 {F : FTy → Type} [FloatOps F] (main_arg2 : IVec S4x32 1) (main_arg5 : FVec F S128x128 .f32) (main_arg6 : FVec F S128 .f32) (main_v5 : IVec S5x256 32) (main_v14 : FVec F S4x256x32x5x128 .f32) (main_v19 : FVec F S4x256x128 .f32) : IVec S_ 1 :=
  let main_v20 : FVec F S128x128 .f32 := (transpose S128x128 [1, 0] · transposes_S128x128_S128x128_1_0) main_arg5
  let main_v21 : FVec F S4x256x32x5x128 .f32 := (fun l r => Host.dotGeneral dot_S4x256x32x5x128_S128x128_S4x256x32x5x128_4_0_0123_1_n_n none l r) main_v14 main_v20
  let main_v22 : FVec F S1x1x1x1x128 .f32 := broadcastInDim S1x1x1x1x128 ![4] bcast_S128_S1x1x1x1x128_4 main_arg6
  let main_v23 : FVec F S4x256x32x5x128 .f32 := broadcastInDim S4x256x32x5x128 ![0, 1, 2, 3, 4] bcast_S1x1x1x1x128_S4x256x32x5x128_0_1_2_3_4 main_v22
  let main_v24 : FVec F S4x256x32x5x128 .f32 := addf main_v21 main_v23
  let main_v25 : FVec F S4x256x32x5 .f32 := (fun l r => Host.dotGeneral dot_S4x256x128_S4x256x32x5x128_S4x256x32x5_2_4_n_23_01_01 none l r) main_v19 main_v24
  let main_cst : FVec F S_ .f32 := constant S_ .f32 0x43000000#32
  let main_v26 : FVec F S_ .f32 := Host.sqrt main_cst
  let main_v27 : FVec F S4x256x32x5 .f32 := broadcastInDim S4x256x32x5 ![] bcast_S_S4x256x32x5 main_v26
  let main_v28 : FVec F S4x256x32x5 .f32 := Host.divf main_v25 main_v27
  let main_c_3 : IVec S_ 32 := constantI S_ 32 0#32
  let main_v29 : IVec S5x256 32 := broadcastInDim S5x256 ![] bcast_S_S5x256 main_c_3
  let main_v30 : IVec S5x256 1 := cmpi .sge main_v5 main_v29
  let main_v31 : IVec S256x5 1 := (transpose S256x5 [1, 0] · transposes_S5x256_S256x5_1_0) main_v30
  let main_v32 : IVec S1x256x1x5 1 := broadcastInDim S1x256x1x5 ![1, 3] bcast_S256x5_S1x256x1x5_1_3 main_v31
  let main_cst_4 : FVec F S_ .f32 := constant S_ .f32 0xFF800000#32
  let main_v33 : FVec F S4x256x32x5 .f32 := fn_where (F := F) main_v32 main_v28 main_cst_4
  let main_v34 : IVec S4x1x32x1 1 := broadcastInDim S4x1x32x1 ![0, 2] bcast_S4x32_S4x1x32x1_0_2 main_arg2
  let main_cst_5 : FVec F S_ .f32 := constant S_ .f32 0xFF800000#32
  let main_v35 : FVec F S4x256x32x5 .f32 := fn_where_0 (F := F) main_v34 main_v33 main_cst_5
  let main_v36 : FVec F S4x256x160 .f32 := shapeCast S4x256x160 main_v35 shapeCasts_S4x256x32x5_S4x256x160
  let main_values : FVec F S4x256x9 .f32 := (fun x => (Host.topK S4x256x9 2 (FloatOps.cmpfTotal .gt) x sliceFits_S4x256x160_S4x256x9).1) main_v36
  let main_indices : IVec S4x256x9 32 := (fun x => (Host.topK S4x256x9 2 (FloatOps.cmpfTotal .gt) x sliceFits_S4x256x160_S4x256x9).2) main_v36
  let main_v37 : FVec F S4x256x8 .f32 := (extractStridedSlice S4x256x8 ![0, 0, 0] · slices_S4x256x9_S4x256x8_0_0_0) main_values
  fn_part2 (F := F) main_values main_v37

def fn {F : FTy → Type} [FloatOps F] (main_arg0 : FVec F S4x256x128 .f32) (main_arg1 : FVec F S4x32x256x128 .f32) (main_arg2 : IVec S4x32 1) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) : IVec S_ 1 :=
  let main_c : IVec S5 32 := fun i => lit0 (S5.rowMajor i)
  let main_v0 : IVec S256 32 := iotaInDim S256 32 0
  let main_v1 : IVec S1x256 32 := broadcastInDim S1x256 ![1] bcast_S256_S1x256_1 main_v0
  let main_v2 : IVec S5x1 32 := broadcastInDim S5x1 ![0] bcast_S5_S5x1_0 main_c
  let main_v3 : IVec S5x256 32 := broadcastInDim S5x256 ![0, 1] bcast_S1x256_S5x256_0_1 main_v1
  let main_v4 : IVec S5x256 32 := broadcastInDim S5x256 ![0, 1] bcast_S5x1_S5x256_0_1 main_v2
  let main_v5 : IVec S5x256 32 := subi main_v3 main_v4
  let main_c_0 : IVec S_ 32 := constantI S_ 32 0#32
  let main_v6 : IVec S5x256 32 := fn_clip (F := F) main_v5 main_c_0
  let main_c_1 : IVec S_ 32 := constantI S_ 32 0#32
  let main_v7 : IVec S5x256 32 := broadcastInDim S5x256 ![] bcast_S_S5x256 main_c_1
  let main_v8 : IVec S5x256 1 := cmpi .slt main_v6 main_v7
  let main_c_2 : IVec S_ 32 := constantI S_ 32 256#32
  let main_v9 : IVec S5x256 32 := broadcastInDim S5x256 ![] bcast_S_S5x256 main_c_2
  let main_v10 : IVec S5x256 32 := addi main_v6 main_v9
  let main_v11 : IVec S5x256 32 := select main_v8 main_v10 main_v6
  let main_v12 : IVec S5x256x1 32 := broadcastInDim S5x256x1 ![0, 1] bcast_S5x256_S5x256x1_0_1 main_v11
  let main_v13 : FVec F S4x32x5x256x128 .f32 := (fun x i => Host.gather gather_S4x32x256x128_S5x256x1_S4x32x5x256x128_014_2_n_n_2_2_4321128 x i) main_arg1 main_v12
  let main_v14 : FVec F S4x256x32x5x128 .f32 := (transpose S4x256x32x5x128 [0, 3, 1, 2, 4] · transposes_S4x32x5x256x128_S4x256x32x5x128_0_3_1_2_4) main_v13
  let main_v15 : FVec F S128x128 .f32 := (transpose S128x128 [1, 0] · transposes_S128x128_S128x128_1_0) main_arg3
  let main_v16 : FVec F S4x256x128 .f32 := (fun l r => Host.dotGeneral dot_S4x256x128_S128x128_S4x256x128_2_0_01_1_n_n none l r) main_arg0 main_v15
  let main_v17 : FVec F S1x1x128 .f32 := broadcastInDim S1x1x128 ![2] bcast_S128_S1x1x128_2 main_arg4
  let main_v18 : FVec F S4x256x128 .f32 := broadcastInDim S4x256x128 ![0, 1, 2] bcast_S1x1x128_S4x256x128_0_1_2 main_v17
  let main_v19 : FVec F S4x256x128 .f32 := addf main_v16 main_v18
  fn_part1 (F := F) main_arg2 main_arg5 main_arg6 main_v5 main_v14 main_v19
-- ==== Kernel.lean ====
abbrev S4x256x128 : Shape := ⟨3, ![4, 256, 128]⟩
abbrev S4x32x256x128 : Shape := ⟨4, ![4, 32, 256, 128]⟩
abbrev S4x32 : Shape := ⟨2, ![4, 32]⟩
abbrev S128x128 : Shape := ⟨2, ![128, 128]⟩
abbrev S128 : Shape := ⟨1, ![128]⟩
abbrev S4x32x1 : Shape := ⟨3, ![4, 32, 1]⟩
abbrev S1x128 : Shape := ⟨2, ![1, 128]⟩
abbrev S1x256x128 : Shape := ⟨3, ![1, 256, 128]⟩
abbrev S1x32x256x128 : Shape := ⟨4, ![1, 32, 256, 128]⟩
abbrev S1x32x1 : Shape := ⟨3, ![1, 32, 1]⟩
abbrev S128x1 : Shape := ⟨2, ![128, 1]⟩
abbrev S128x256 : Shape := ⟨2, ![128, 256]⟩
abbrev S256x128 : Shape := ⟨2, ![256, 128]⟩
abbrev S32x256x128 : Shape := ⟨3, ![32, 256, 128]⟩
abbrev S32x1 : Shape := ⟨2, ![32, 1]⟩
abbrev S128x30 : Shape := ⟨2, ![128, 30]⟩
abbrev S128x255 : Shape := ⟨2, ![128, 255]⟩
abbrev S256 : Shape := ⟨1, ![256]⟩
abbrev S1x256 : Shape := ⟨2, ![1, 256]⟩
abbrev S32x256 : Shape := ⟨2, ![32, 256]⟩
abbrev S32x255 : Shape := ⟨2, ![32, 255]⟩
abbrev S128x251 : Shape := ⟨2, ![128, 251]⟩
abbrev S128x5 : Shape := ⟨2, ![128, 5]⟩
abbrev S32x5 : Shape := ⟨2, ![32, 5]⟩
abbrev S32x251 : Shape := ⟨2, ![32, 251]⟩
abbrev S128x246 : Shape := ⟨2, ![128, 246]⟩
abbrev S128x10 : Shape := ⟨2, ![128, 10]⟩
abbrev S32x10 : Shape := ⟨2, ![32, 10]⟩
abbrev S32x246 : Shape := ⟨2, ![32, 246]⟩
abbrev S128x235 : Shape := ⟨2, ![128, 235]⟩
abbrev S128x21 : Shape := ⟨2, ![128, 21]⟩
abbrev S32x21 : Shape := ⟨2, ![32, 21]⟩
abbrev S32x235 : Shape := ⟨2, ![32, 235]⟩
abbrev S128x226 : Shape := ⟨2, ![128, 226]⟩
abbrev S32x30 : Shape := ⟨2, ![32, 30]⟩
abbrev S32x226 : Shape := ⟨2, ![32, 226]⟩
abbrev S160x256 : Shape := ⟨2, ![160, 256]⟩

abbrev nBuf : Space → Nat
  | .hbm => 25
  | .vmem => 20
  | .smem => 0
  | _ => 0

abbrev bufTy : (tb : Table) → Fin (tcTables nBuf tb) → BufTy
  | .hbm, ⟨0, _⟩ => ⟨S4x256x128, .f32⟩
  | .hbm, ⟨1, _⟩ => ⟨S4x32x256x128, .f32⟩
  | .hbm, ⟨2, _⟩ => ⟨S4x32, .i1⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S4x32x1, .i1⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S4x32x1, .i32⟩
  | .hbm, ⟨24, _⟩ => ⟨S4x256x128, .f32⟩
  | .local _ .vmem, ⟨0, _⟩ => ⟨S1x256x128, .f32⟩
  | .local _ .vmem, ⟨1, _⟩ => ⟨S1x256x128, .f32⟩
  | .local _ .vmem, ⟨2, _⟩ => ⟨S1x32x256x128, .f32⟩
  | .local _ .vmem, ⟨3, _⟩ => ⟨S1x32x256x128, .f32⟩
  | .local _ .vmem, ⟨4, _⟩ => ⟨S1x32x1, .i32⟩
  | .local _ .vmem, ⟨5, _⟩ => ⟨S1x32x1, .i32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x256x128, .f32⟩
  | .local _ .vmem, ⟨19, _⟩ => ⟨S1x256x128, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S4x256x128 : Shape := ⟨3, ![4, 256, 128]⟩
abbrev S4x32x256x128 : Shape := ⟨4, ![4, 32, 256, 128]⟩
abbrev S4x32 : Shape := ⟨2, ![4, 32]⟩
abbrev S128x128 : Shape := ⟨2, ![128, 128]⟩
abbrev S128 : Shape := ⟨1, ![128]⟩
abbrev S5 : Shape := ⟨1, ![5]⟩
abbrev S256 : Shape := ⟨1, ![256]⟩
abbrev S1x256 : Shape := ⟨2, ![1, 256]⟩
abbrev S5x1 : Shape := ⟨2, ![5, 1]⟩
abbrev S5x256 : Shape := ⟨2, ![5, 256]⟩
abbrev S_ : Shape := ⟨0, ![]⟩
abbrev S5x256x1 : Shape := ⟨3, ![5, 256, 1]⟩
abbrev S4x32x5x256x128 : Shape := ⟨5, ![4, 32, 5, 256, 128]⟩
abbrev S4x256x32x5x128 : Shape := ⟨5, ![4, 256, 32, 5, 128]⟩
abbrev S1x1x128 : Shape := ⟨3, ![1, 1, 128]⟩
abbrev S1x1x1x1x128 : Shape := ⟨5, ![1, 1, 1, 1, 128]⟩
abbrev S4x256x32x5 : Shape := ⟨4, ![4, 256, 32, 5]⟩
abbrev S256x5 : Shape := ⟨2, ![256, 5]⟩
abbrev S1x256x1x5 : Shape := ⟨4, ![1, 256, 1, 5]⟩
abbrev S4x1x32x1 : Shape := ⟨4, ![4, 1, 32, 1]⟩
abbrev S4x256x160 : Shape := ⟨3, ![4, 256, 160]⟩
abbrev S4x256x8 : Shape := ⟨3, ![4, 256, 8]⟩
abbrev S4x256 : Shape := ⟨2, ![4, 256]⟩
abbrev S4x256x1 : Shape := ⟨3, ![4, 256, 1]⟩
abbrev S4x256x160x128 : Shape := ⟨4, ![4, 256, 160, 128]⟩
abbrev S4x256x8x1 : Shape := ⟨4, ![4, 256, 8, 1]⟩
abbrev S1 : Shape := ⟨1, ![1]⟩
abbrev S1x1x1x1 : Shape := ⟨4, ![1, 1, 1, 1]⟩
abbrev S4x256x8x128 : Shape := ⟨4, ![4, 256, 8, 128]⟩

abbrev nBuf : Space → Nat
  | .hbm => 191
  | .vmem => 0
  | .smem => 0
  | _ => 0

abbrev hbmTy0_0 (i : Nat) : BufTy := match i % 128 with
  | 0 => ⟨S4x256x128, .f32⟩
  | 1 => ⟨S4x32x256x128, .f32⟩
  | 2 => ⟨S4x32, .i1⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S5, .i32⟩
  | 16 => ⟨S256, .i32⟩
  | 17 => ⟨S1x256, .i32⟩
  | 18 => ⟨S5x1, .i32⟩
  | 19 => ⟨S5x256, .i32⟩
  | 20 => ⟨S5x256, .i32⟩
  | 21 => ⟨S5x256, .i32⟩
  | 22 => ⟨S_, .i32⟩
  | 23 => ⟨S5x256, .i32⟩
  | 24 => ⟨S5x256, .i1⟩
  | 25 => ⟨S_, .i32⟩
  | 26 => ⟨S_, .i32⟩
  | 27 => ⟨S5x256, .i32⟩
  | 28 => ⟨S5x256, .i32⟩
  | 29 => ⟨S_, .i32⟩
  | 30 => ⟨S5x256, .i32⟩
  | 31 => ⟨S5x256, .i1⟩
  | 32 => ⟨S_, .i32⟩
  | 33 => ⟨S5x256, .i32⟩
  | 34 => ⟨S5x256, .i32⟩
  | 35 => ⟨S5x256, .i32⟩
  | 36 => ⟨S5x256x1, .i32⟩
  | 37 => ⟨S4x32x5x256x128, .f32⟩
  | 38 => ⟨S4x256x32x5x128, .f32⟩
  | 39 => ⟨S128x128, .f32⟩
  | 40 => ⟨S4x256x128, .f32⟩
  | 41 => ⟨S1x1x128, .f32⟩
  | 42 => ⟨S4x256x128, .f32⟩
  | 43 => ⟨S4x256x128, .f32⟩
  | 44 => ⟨S128x128, .f32⟩
  | 45 => ⟨S4x256x32x5x128, .f32⟩
  | 46 => ⟨S1x1x1x1x128, .f32⟩
  | 47 => ⟨S4x256x32x5x128, .f32⟩
  | 48 => ⟨S4x256x32x5x128, .f32⟩
  | 49 => ⟨S128x128, .f32⟩
  | 50 => ⟨S4x256x32x5x128, .f32⟩
  | 51 => ⟨S1x1x1x1x128, .f32⟩
  | 52 => ⟨S4x256x32x5x128, .f32⟩
  | 53 => ⟨S4x256x32x5x128, .f32⟩
  | 54 => ⟨S4x256x32x5, .f32⟩
  | 55 => ⟨S_, .f32⟩
  | 56 => ⟨S_, .f32⟩
  | 57 => ⟨S4x256x32x5, .f32⟩
  | 58 => ⟨S4x256x32x5, .f32⟩
  | 59 => ⟨S256x5, .i1⟩
  | 60 => ⟨S1x256x1x5, .i1⟩
  | 61 => ⟨S_, .f32⟩
  | 62 => ⟨S_, .f32⟩
  | 63 => ⟨S4x256x32x5, .i1⟩
  | 64 => ⟨S4x256x32x5, .f32⟩
  | 65 => ⟨S4x256x32x5, .f32⟩
  | 66 => ⟨S4x1x32x1, .i1⟩
  | 67 => ⟨S_, .f32⟩
  | 68 => ⟨S_, .f32⟩
  | 69 => ⟨S4x256x32x5, .i1⟩
  | 70 => ⟨S4x256x32x5, .f32⟩
  | 71 => ⟨S4x256x32x5, .f32⟩
  | 72 => ⟨S4x256x160, .f32⟩
  | 73 => ⟨S4x256x8, .f32⟩
  | 74 => ⟨S4x256x8, .i32⟩
  | 75 => ⟨S4x256x8, .f32⟩
  | 76 => ⟨S_, .f32⟩
  | 77 => ⟨S4x256x8, .f32⟩
  | 78 => ⟨S4x256x8, .i1⟩
  | 79 => ⟨S_, .i1⟩
  | 80 => ⟨S4x256, .i1⟩
  | 81 => ⟨S4x256x1, .i1⟩
  | 82 => ⟨S4x256x8, .f32⟩
  | 83 => ⟨S_, .f32⟩
  | 84 => ⟨S4x256x8, .f32⟩
  | 85 => ⟨S4x256x8, .i1⟩
  | 86 => ⟨S_, .f32⟩
  | 87 => ⟨S4x256x8, .f32⟩
  | 88 => ⟨S4x256x8, .f32⟩
  | 89 => ⟨S_, .f32⟩
  | 90 => ⟨S4x256, .f32⟩
  | 91 => ⟨S_, .f32⟩
  | 92 => ⟨S4x256, .f32⟩
  | 93 => ⟨S4x256, .f32⟩
  | 94 => ⟨S4x256x1, .f32⟩
  | 95 => ⟨S4x256x8, .f32⟩
  | 96 => ⟨S4x256x8, .f32⟩
  | 97 => ⟨S4x256x8, .f32⟩
  | 98 => ⟨S_, .f32⟩
  | 99 => ⟨S4x256, .f32⟩
  | 100 => ⟨S4x256x1, .f32⟩
  | 101 => ⟨S4x256x8, .f32⟩
  | 102 => ⟨S4x256x8, .f32⟩
  | 103 => ⟨S4x256x1, .i1⟩
  | 104 => ⟨S4x256x1, .f32⟩
  | 105 => ⟨S4x256x8, .f32⟩
  | 106 => ⟨S4x256x8, .f32⟩
  | 107 => ⟨S4x256x160x128, .f32⟩
  | 108 => ⟨S4x256x8x1, .i32⟩
  | 109 => ⟨S_, .i32⟩
  | 110 => ⟨S4x256x8x1, .i32⟩
  | 111 => ⟨S4x256x8x1, .i1⟩
  | 112 => ⟨S_, .i32⟩
  | 113 => ⟨S4x256x8x1, .i32⟩
  | 114 => ⟨S4x256x8x1, .i32⟩
  | 115 => ⟨S4x256x8x1, .i32⟩
  | 116 => ⟨S1, .i32⟩
  | 117 => ⟨S_, .i32⟩
  | 118 => ⟨S4x256x8x1, .i32⟩
  | 119 => ⟨S4x256x8x1, .i1⟩
  | 120 => ⟨S1x1x1x1, .i32⟩
  | 121 => ⟨S4x256x8x1, .i32⟩
  | 122 => ⟨S4x256x8x1, .i1⟩
  | 123 => ⟨S4x256x8x1, .i1⟩
  | 124 => ⟨S_, .i1⟩
  | 125 => ⟨S4x256x8, .i1⟩
  | 126 => ⟨S4x256x8x128, .f32⟩
  | 127 => ⟨S4x256x8x128, .i1⟩
  | _ => ⟨S4x256x128, .f32⟩

abbrev hbmTy0_1 (i : Nat) : BufTy := match i % 128 with
  | 0 => ⟨S_, .f32⟩
  | 1 => ⟨S4x256x8x128, .f32⟩
  | 2 => ⟨S4x256x8x128, .f32⟩
  | 3 => ⟨S4x256x8x1, .f32⟩
  | 4 => ⟨S4x256x8x128, .f32⟩
  | 5 => ⟨S4x256x8x128, .f32⟩
  | 6 => ⟨S_, .f32⟩
  | 7 => ⟨S4x256x128, .f32⟩
  | 8 => ⟨S128x128, .f32⟩
  | 9 => ⟨S4x256x128, .f32⟩
  | 10 => ⟨S1x1x128, .f32⟩
  | 11 => ⟨S4x256x128, .f32⟩
  | 12 => ⟨S4x256x128, .f32⟩
  | 13 => ⟨S_, .f32⟩
  | 14 => ⟨S4x256x128, .f32⟩
  | 15 => ⟨S4x256x128, .i1⟩
  | 16 => ⟨S_, .f32⟩
  | 17 => ⟨S4x256x128, .f32⟩
  | 18 => ⟨S4x256x128, .i1⟩
  | 19 => ⟨S_, .f32⟩
  | 20 => ⟨S_, .f32⟩
  | 21 => ⟨S4x256x128, .f32⟩
  | 22 => ⟨S4x256x128, .f32⟩
  | 23 => ⟨S4x256x128, .f32⟩
  | 24 => ⟨S_, .f32⟩
  | 25 => ⟨S4x256x128, .f32⟩
  | 26 => ⟨S4x256x128, .f32⟩
  | 27 => ⟨S4x256x128, .f32⟩
  | 28 => ⟨S128x128, .f32⟩
  | 29 => ⟨S4x256x128, .f32⟩
  | 30 => ⟨S1x1x128, .f32⟩
  | 31 => ⟨S4x256x128, .f32⟩
  | 32 => ⟨S4x256x128, .f32⟩
  | 33 => ⟨S4x256x128, .f32⟩
  | 34 => ⟨S_, .f32⟩
  | 35 => ⟨S4x256, .f32⟩
  | 36 => ⟨S4x256x1, .f32⟩
  | 37 => ⟨S_, .f32⟩
  | 38 => ⟨S4x256x1, .f32⟩
  | 39 => ⟨S4x256x1, .f32⟩
  | 40 => ⟨S4x256x128, .f32⟩
  | 41 => ⟨S4x256x128, .f32⟩
  | 42 => ⟨S4x256x128, .f32⟩
  | 43 => ⟨S_, .f32⟩
  | 44 => ⟨S4x256, .f32⟩
  | 45 => ⟨S4x256x1, .f32⟩
  | 46 => ⟨S_, .f32⟩
  | 47 => ⟨S4x256x1, .f32⟩
  | 48 => ⟨S4x256x1, .f32⟩
  | 49 => ⟨S4x256x128, .f32⟩
  | 50 => ⟨S4x256x128, .f32⟩
  | 51 => ⟨S1x1x128, .f32⟩
  | 52 => ⟨S4x256x128, .f32⟩
  | 53 => ⟨S4x256x128, .f32⟩
  | 54 => ⟨S_, .f32⟩
  | 55 => ⟨S4x256x1, .f32⟩
  | 56 => ⟨S4x256x1, .f32⟩
  | 57 => ⟨S4x256x1, .f32⟩
  | 58 => ⟨S4x256x128, .f32⟩
  | 59 => ⟨S4x256x128, .f32⟩
  | 60 => ⟨S1x1x128, .f32⟩
  | 61 => ⟨S4x256x128, .f32⟩
  | 62 => ⟨S4x256x128, .f32⟩
  | _ => ⟨S4x256x128, .f32⟩

abbrev hbmTy (i : Nat) : BufTy := match i / 128 with
  | 0 => hbmTy0_0 i
  | 1 => hbmTy0_1 i
  | _ => ⟨S4x256x128, .f32⟩

abbrev bufTy : (tb : Table) → Fin (tcTables nBuf tb) → BufTy
  | .hbm, ⟨i, _⟩ => hbmTy i
  | _, _ => ⟨S4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_4 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v40 : Ref sig .tc := ⟨.hbm, 71, rfl⟩
abbrev main_v41 : Ref sig .tc := ⟨.hbm, 72, rfl⟩
abbrev main_values : Ref sig .tc := ⟨.hbm, 73, rfl⟩
abbrev main_indices : Ref sig .tc := ⟨.hbm, 74, rfl⟩
abbrev main_call3_v0 : Ref sig .tc := ⟨.hbm, 75, rfl⟩
abbrev main_call3_cst : Ref sig .tc := ⟨.hbm, 76, rfl⟩
abbrev main_call3_v1 : Ref sig .tc := ⟨.hbm, 77, rfl⟩
abbrev main_v42 : Ref sig .tc := ⟨.hbm, 78, rfl⟩
abbrev main_c_6 : Ref sig .tc := ⟨.hbm, 79, rfl⟩
abbrev main_v43 : Ref sig .tc := ⟨.hbm, 80, rfl⟩
abbrev main_v44 : Ref sig .tc := ⟨.hbm, 81, rfl⟩
abbrev main_call4_v0 : Ref sig .tc := ⟨.hbm, 82, rfl⟩
abbrev main_call4_cst : Ref sig .tc := ⟨.hbm, 83, rfl⟩
abbrev main_call4_v1 : Ref sig .tc := ⟨.hbm, 84, rfl⟩
abbrev main_v45 : Ref sig .tc := ⟨.hbm, 85, rfl⟩
abbrev main_cst_7 : Ref sig .tc := ⟨.hbm, 86, rfl⟩
abbrev main_call5_v0 : Ref sig .tc := ⟨.hbm, 87, rfl⟩
abbrev main_v46 : Ref sig .tc := ⟨.hbm, 88, rfl⟩
abbrev main_cst_8 : Ref sig .tc := ⟨.hbm, 89, rfl⟩
abbrev main_v47 : Ref sig .tc := ⟨.hbm, 90, rfl⟩
abbrev main_cst_9 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_10 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_call6_c : Ref sig .tc := ⟨.hbm, 109, rfl⟩
abbrev main_call6_v0 : Ref sig .tc := ⟨.hbm, 110, rfl⟩
abbrev main_call6_v1 : Ref sig .tc := ⟨.hbm, 111, rfl⟩
abbrev main_call6_c_0 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_call6_c_1 : Ref sig .tc := ⟨.hbm, 116, rfl⟩
abbrev main_call6_c_2 : Ref sig .tc := ⟨.hbm, 117, rfl⟩
abbrev main_call6_v5 : Ref sig .tc := ⟨.hbm, 118, rfl⟩
abbrev main_call6_v6 : Ref sig .tc := ⟨.hbm, 119, rfl⟩
abbrev main_call6_v7 : Ref sig .tc := ⟨.hbm, 120, rfl⟩
abbrev main_call6_v8 : Ref sig .tc := ⟨.hbm, 121, rfl⟩
abbrev main_call6_v9 : Ref sig .tc := ⟨.hbm, 122, rfl⟩
abbrev main_call6_v10 : Ref sig .tc := ⟨.hbm, 123, rfl⟩
abbrev main_call6_c_3 : Ref sig .tc := ⟨.hbm, 124, rfl⟩
abbrev main_call6_v11 : Ref sig .tc := ⟨.hbm, 125, rfl⟩
abbrev main_call6_v12 : Ref sig .tc := ⟨.hbm, 126, rfl⟩
abbrev main_call6_v13 : Ref sig .tc := ⟨.hbm, 127, rfl⟩
abbrev main_call6_cst : Ref sig .tc := ⟨.hbm, 128, rfl⟩
abbrev main_call6_v14 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_11 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_call7_cst : Ref sig .tc := ⟨.hbm, 141, rfl⟩
abbrev main_call7_v0 : Ref sig .tc := ⟨.hbm, 142, rfl⟩
abbrev main_call7_v1 : Ref sig .tc := ⟨.hbm, 143, rfl⟩
abbrev main_call7_cst_0 : Ref sig .tc := ⟨.hbm, 144, rfl⟩
abbrev main_call7_v2 : Ref sig .tc := ⟨.hbm, 145, rfl⟩
abbrev main_call7_v3 : Ref sig .tc := ⟨.hbm, 146, rfl⟩
abbrev main_call7_cst_1 : Ref sig .tc := ⟨.hbm, 147, rfl⟩
abbrev main_call7_call0_v0 : Ref sig .tc := ⟨.hbm, 148, rfl⟩
abbrev main_call7_call0_v1 : Ref sig .tc := ⟨.hbm, 149, rfl⟩
abbrev main_call7_v4 : Ref sig .tc := ⟨.hbm, 150, rfl⟩
abbrev main_call7_v5 : Ref sig .tc := ⟨.hbm, 151, rfl⟩
abbrev main_call7_cst_2 : Ref sig .tc := ⟨.hbm, 152, rfl⟩
abbrev main_call7_v6 : Ref sig .tc := ⟨.hbm, 153, rfl⟩
abbrev main_call7_v7 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_cst_12 : Ref sig .tc := ⟨.hbm, 162, rfl⟩
abbrev main_v81 : Ref sig .tc := ⟨.hbm, 163, rfl⟩
abbrev main_v82 : Ref sig .tc := ⟨.hbm, 164, rfl⟩
abbrev main_cst_13 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_cst_14 : Ref sig .tc := ⟨.hbm, 171, rfl⟩
abbrev main_v88 : Ref sig .tc := ⟨.hbm, 172, rfl⟩
abbrev main_v89 : Ref sig .tc := ⟨.hbm, 173, rfl⟩
abbrev main_cst_15 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_cst_16 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩

abbrev nD : Nat := 1
abbrev τ : Topo := Topo.v7x

variable {F : FTy → Type} [FloatOps F]
-- ==== Proof.Shift.lean ====
/- Shifting a table of rows along its columns, the way the kernel writes it: a slice of the table joined
   to a block of one constant. Stated once for any number of rows and any lag. -/
module

public import proofs.«01_k».proof.Proof.Gen.KernelIdeal
public import Idealize.ShloMosaic.Lib.Pointwise

@[expose] public section

set_option maxRecDepth 16384

noncomputable section

namespace Cert.Shift

open Idealize.ShloMosaic

variable {α : Type}

/-- A table of `m` rows and `n` columns. -/
abbrev Tab (m n : Nat) : Shape := ⟨2, ![m, n]⟩

theorem slices_tab {m n m' n' r c : Nat} (hr : r + m' ≤ m) (hc : c + n' ≤ n) :
    (Tab m n).Slices ![r, c] (Tab m' n') :=
  ⟨rfl, fun a => by fin_cases a <;> assumption⟩

theorem concatenates_tab {m n n₁ n₂ : Nat} (h : n₁ + n₂ = n) :
    Shape.Concatenates [Tab m n₁, Tab m n₂] (Tab m n) 1 := by
  refine ⟨le_refl _, ?_, ?_⟩
  · intro s hs
    simp only [List.mem_cons, List.not_mem_nil, or_false] at hs
    rcases hs with rfl | rfl <;>
    · refine ⟨rfl, fun b hb => ?_⟩
      fin_cases b
      · rfl
      · exact absurd rfl hb
  · simpa using h

/-- The table moved left by `lag` columns, the columns at the end filled with `c`. -/
def left (m lag : Nat) (hl : lag ≤ 256) (c : α) (X : (Tab m 256).Idx → α) : (Tab m 256).Idx → α :=
  concatenate (Tab m 256) 1
    [⟨Tab m (256 - lag), extractStridedSlice (Tab m (256 - lag)) ![0, lag] X
        (slices_tab (by omega) (by omega))⟩,
     ⟨Tab m lag, fun _ => c⟩]
    (concatenates_tab (by omega))

/-- The table moved right by `lag` columns, the first columns filled with `c`. -/
def right (m lag : Nat) (hl : lag ≤ 256) (c : α) (X : (Tab m 256).Idx → α) : (Tab m 256).Idx → α :=
  concatenate (Tab m 256) 1
    [⟨Tab m lag, fun _ => c⟩,
     ⟨Tab m (256 - lag), extractStridedSlice (Tab m (256 - lag)) ![0, 0] X
        (slices_tab (by omega) (by omega))⟩]
    (concatenates_tab (by omega))

/-- Column `t` of the table moved left is column `t + lag`, while there is one. -/
theorem left_apply {m lag : Nat} (hl : lag ≤ 256) (c : α) (X : (Tab m 256).Idx → α) (i : Fin m) (t : Fin 256) :
    left m lag hl c X (ix2 i t) = if h : t.val + lag < 256 then X (ix2 i ⟨t.val + lag, h⟩) else c := by
  unfold left
  split
  · rename_i h
    have e := concatenate_pair_apply_left (t := Tab m 256) 1
      (extractStridedSlice (Tab m (256 - lag)) ![0, lag] X (slices_tab (by omega) (by omega)))
      (fun _ : (Tab m lag).Idx => c) (concatenates_tab (by omega)) (ix2 i t) rfl
      (ix2 i ⟨t.val, by omega⟩) (fun b => by fin_cases b <;> rfl)
    rw [e]
    unfold extractStridedSlice
    congr 1
    funext a
    fin_cases a
    · exact Fin.ext (Nat.zero_add _)
    · exact Fin.ext (Nat.add_comm _ _)
  · rename_i h
    exact concatenate_pair_apply_right (t := Tab m 256) 1
      (extractStridedSlice (Tab m (256 - lag)) ![0, lag] X (slices_tab (by omega) (by omega)))
      (fun _ : (Tab m lag).Idx => c) (concatenates_tab (by omega)) (ix2 i t) rfl rfl
      (ix2 i ⟨t.val - (256 - lag), by have := t.isLt; omega⟩)
      (fun b hb => by
        fin_cases b
        · rfl
        · exact absurd rfl hb)
      (show t.val - (256 - lag) + (256 - lag) = t.val by omega)

/-- Column `t` of the table moved right is column `t - lag`, once there is one. -/
theorem right_apply {m lag : Nat} (hl : lag ≤ 256) (c : α) (X : (Tab m 256).Idx → α) (i : Fin m) (t : Fin 256) :
    right m lag hl c X (ix2 i t)
      = if lag ≤ t.val then X (ix2 i ⟨t.val - lag, by have := t.isLt; omega⟩) else c := by
  unfold right
  split
  · rename_i h
    have e := concatenate_pair_apply_right (t := Tab m 256) 1
      (fun _ : (Tab m lag).Idx => c)
      (extractStridedSlice (Tab m (256 - lag)) ![0, 0] X (slices_tab (by omega) (by omega)))
      (concatenates_tab (by omega)) (ix2 i t) rfl rfl
      (ix2 i ⟨t.val - lag, by have := t.isLt; omega⟩)
      (fun b hb => by
        fin_cases b
        · rfl
        · exact absurd rfl hb)
      (show t.val - lag + lag = t.val by omega)
    rw [e]
    unfold extractStridedSlice
    congr 1
    funext a
    fin_cases a
    · exact Fin.ext (Nat.zero_add _)
    · exact Fin.ext (Nat.zero_add _)
  · rename_i h
    exact concatenate_pair_apply_left (t := Tab m 256) 1
      (fun _ : (Tab m lag).Idx => c)
      (extractStridedSlice (Tab m (256 - lag)) ![0, 0] X (slices_tab (by omega) (by omega)))
      (concatenates_tab (by omega)) (ix2 i t) rfl
      (ix2 i ⟨t.val, by omega⟩) (fun b => by fin_cases b <;> rfl)

end Cert.Shift
-- ==== Proof.Model.lean ====
/- The kernel's block written with its repetitions as loops: the same operations in the same order, the
   thirty-two peers and the five lags each stated once. `block_eq` says that the block the kernel leaves
   is this one; every equation here is by unfolding alone. -/
module

public import proofs.«01_k».proof.Proof.Gen.KernelIdeal.Frame
public import proofs.«01_k».proof.Proof.Shift

@[expose] public section

set_option maxRecDepth 16384

noncomputable section

namespace Cert.Model

open Idealize.ShloMosaic Cert.KernelIdeal Cert.KernelIdeal.Gen Cert.Shift

variable {F : FTy → Type} [FloatOps F] [Named F]

/-- Zero, minus infinity and the scale of the scores. -/
abbrev zero : F .f32 := Scalar.ofBits .f32 0x00000000#32
abbrev ninf : F .f32 := Scalar.ofBits .f32 0xFF800000#32
abbrev scale : F .f32 := Named.named κ "scale" 0x3DB504F3#32

theorem slices_peer (n : Fin 32) : S32x256x128.Slices ![n.val, 0, 0] S1x256x128 := by
  refine ⟨rfl, fun a => ?_⟩
  have := n.isLt
  fin_cases a
  · show n.val + 1 ≤ 32
    omega
  · exact le_refl 256
  · exact le_refl 128

/-- Peer `n`'s frames, time down and hidden across. -/
def peerOf (P : FVec F S32x256x128 .f32) (n : Fin 32) : FVec F S256x128 .f32 :=
  shapeCast S256x128
    (extractStridedSlice S1x256x128 ![n.val, 0, 0] P
      (slices_peer n))
    shapeCasts_S1x256x128_S256x128

/-- Peer `n`'s projection, hidden down and time across. -/
def proj (b : FVec F S128x256 .f32) (W : FVec F S128x128 .bf16) (P : FVec F S32x256x128 .f32) (n : Fin 32) :
    FVec F S128x256 .f32 :=
  addf (matmul dot_S128x128_S256x128_S128x256_1_1_0_0_n_n none W (truncf .bf16 (peerOf P n) bitsLt_bf16_f32)
    (constant S128x256 .f32 0x00000000#32)) b

/-- Peer `n`'s keys: its projection, rounded. -/
def keyOf (b : FVec F S128x256 .f32) (W : FVec F S128x128 .bf16) (P : FVec F S32x256x128 .f32) (n : Fin 32) :
    FVec F S128x256 .f32 :=
  extf .f32 (truncf .bf16 (proj b W P n) bitsLt_bf16_f32) bitsLt_bf16_f32

/-- The inner product of two tables' columns, one for each time. -/
def row (Q K : FVec F S128x256 .f32) : FVec F S1x256 .f32 :=
  shapeCast S1x256
    (multiReduction .add [0] S256 (mulf Q K) 0x00000000#32 reduces_S128x256_S256 (.inl rfl) rfl)
    shapeCasts_S256_S1x256

/-- The inner products with every peer's keys, a row for each peer. -/
def rows (Q : FVec F S128x256 .f32) (K : Fin 32 → FVec F S128x256 .f32) : FVec F S32x256 .f32 :=
  concatenate S32x256 0
    [⟨S1x256, row Q (K 0)⟩, ⟨S1x256, row Q (K 1)⟩, ⟨S1x256, row Q (K 2)⟩,
     ⟨S1x256, row Q (K 3)⟩, ⟨S1x256, row Q (K 4)⟩, ⟨S1x256, row Q (K 5)⟩,
     ⟨S1x256, row Q (K 6)⟩, ⟨S1x256, row Q (K 7)⟩, ⟨S1x256, row Q (K 8)⟩,
     ⟨S1x256, row Q (K 9)⟩, ⟨S1x256, row Q (K 10)⟩, ⟨S1x256, row Q (K 11)⟩,
     ⟨S1x256, row Q (K 12)⟩, ⟨S1x256, row Q (K 13)⟩, ⟨S1x256, row Q (K 14)⟩,
     ⟨S1x256, row Q (K 15)⟩, ⟨S1x256, row Q (K 16)⟩, ⟨S1x256, row Q (K 17)⟩,
     ⟨S1x256, row Q (K 18)⟩, ⟨S1x256, row Q (K 19)⟩, ⟨S1x256, row Q (K 20)⟩,
     ⟨S1x256, row Q (K 21)⟩, ⟨S1x256, row Q (K 22)⟩, ⟨S1x256, row Q (K 23)⟩,
     ⟨S1x256, row Q (K 24)⟩, ⟨S1x256, row Q (K 25)⟩, ⟨S1x256, row Q (K 26)⟩,
     ⟨S1x256, row Q (K 27)⟩, ⟨S1x256, row Q (K 28)⟩, ⟨S1x256, row Q (K 29)⟩,
     ⟨S1x256, row Q (K 30)⟩, ⟨S1x256, row Q (K 31)⟩]
    concatenates_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S32x256_d0

/-- Scaled, and minus infinity at a masked peer. -/
def masked (mask : IVec S32x1 1) (X : FVec F S32x256 .f32) : FVec F S32x256 .f32 :=
  select (broadcastTo S32x256 (shapeCast S32x1 mask shapeCasts_S32x1_S32x1) broadcasts_S32x1_S32x256)
    (mulf X (broadcast S32x256 scale)) (broadcast S32x256 ninf)

/-- The scores at one lag: of the queries moved back against the keys, moved forward again. -/
def scores (mask : IVec S32x1 1) (Q : FVec F S128x256 .f32) (K : Fin 32 → FVec F S128x256 .f32) (lag : Nat)
    (hl : lag ≤ 256) : FVec F S32x256 .f32 :=
  right 32 lag hl ninf (masked mask (rows (left 128 lag hl zero Q) K))

/-- The five lags' scores, one under another. -/
def allScores (mask : IVec S32x1 1) (Q : FVec F S128x256 .f32) (K : Fin 32 → FVec F S128x256 .f32) :
    FVec F S160x256 .f32 :=
  concatenate S160x256 0
    [⟨S32x256, scores mask Q K 1 (by decide)⟩, ⟨S32x256, scores mask Q K 5 (by decide)⟩,
     ⟨S32x256, scores mask Q K 10 (by decide)⟩, ⟨S32x256, scores mask Q K 21 (by decide)⟩,
     ⟨S32x256, scores mask Q K 30 (by decide)⟩]
    concatenates_S32x256_S32x256_S32x256_S32x256_S32x256_S160x256_d0

/-- The greatest of each column, and each column's sum. -/
def colMax (X : FVec F S160x256 .f32) : FVec F S1x256 .f32 :=
  shapeCast S1x256 (multiReduction .maximumf [0] S256 X 0xFF800000#32 reduces_S160x256_S256 (.inl rfl) rfl)
    shapeCasts_S256_S1x256
def colSum (X : FVec F S160x256 .f32) : FVec F S1x256 .f32 :=
  shapeCast S1x256 (multiReduction .add [0] S256 X 0x00000000#32 reduces_S160x256_S256 (.inl rfl) rfl)
    shapeCasts_S256_S1x256

/-- A row repeated down the table. -/
def down {α : Type} (X : S1x256.Idx → α) : S160x256.Idx → α := broadcastTo S160x256 X broadcasts_S1x256_S160x256

/-- The table with each column's greatest entries taken out, `n` times over. -/
def peelTab (X : FVec F S160x256 .f32) : Nat → FVec F S160x256 .f32
  | 0 => X
  | n + 1 => select (cmpf .oeq (peelTab X n) (down (colMax (peelTab X n)))) (broadcast S160x256 ninf) (peelTab X n)

/-- What each score weighs before the division: its exponential, if it reaches the eighth greatest. -/
def keepTab (X : FVec F S160x256 .f32) : FVec F S160x256 .f32 :=
  select (cmpf .oge X (down (colMax (peelTab X 7))))
    (select (cmpf .oeq X (broadcast S160x256 ninf)) (broadcast S160x256 zero)
      (exp (subf X (down (select (cmpf .oeq (colMax X) (broadcast S1x256 ninf)) (broadcast S1x256 zero) (colMax X))))))
    (broadcast S160x256 zero)

/-- The weights: divided by their sum, if that is not zero. -/
def weights (X : FVec F S160x256 .f32) : FVec F S160x256 .f32 :=
  select (down (shapeCast S1x256 (cmpf .ogt (colSum (keepTab X)) (broadcast S1x256 zero)) shapeCasts_S1x256_S1x256))
    (divf (keepTab X) (down (colSum (keepTab X)))) (broadcast S160x256 zero)

/-- Row `n` of a table of the peers' weights, repeated down the hidden axis. -/
def rowOf (W : FVec F S32x256 .f32) (n : Nat) (h : n < 32) : FVec F S128x256 .f32 :=
  broadcastTo S128x256
    (extractStridedSlice S1x256 ![n, 0] W (slices_tab (m := 32) (n := 256) (m' := 1) (n' := 256) (by omega) (by omega)))
    broadcasts_S1x256_S128x256

/-- The peers' values weighed and added up, peers `0` to `n`. -/
def weigh (W : FVec F S32x256 .f32) (V : Fin 32 → FVec F S128x256 .f32) : (n : Nat) → n < 32 → FVec F S128x256 .f32
  | 0, h => mulf (rowOf W 0 h) (V ⟨0, h⟩)
  | n + 1, h => addf (weigh W V n (Nat.lt_of_succ_lt h)) (mulf (rowOf W (n + 1) h) (V ⟨n + 1, h⟩))

/-- One lag's rows of the weights. -/
def lagRows (W : FVec F S160x256 .f32) (r : Nat) (hr : r ≤ 128) : FVec F S32x256 .f32 :=
  extractStridedSlice S32x256 ![r, 0] W
    (slices_tab (m := 160) (n := 256) (m' := 32) (n' := 256) (by omega) (by omega))

/-- What one lag adds: its weights moved back, the values weighed, the sum moved forward again. -/
def lagSum (W : FVec F S160x256 .f32) (V : Fin 32 → FVec F S128x256 .f32) (r : Nat) (hr : r ≤ 128) (lag : Nat)
    (hl : lag ≤ 256) : FVec F S128x256 .f32 :=
  right 128 lag hl zero (weigh (left 32 lag hl zero (lagRows W r hr)) V 31 (by decide))

/-- The first four lags' sums, added up from zero. -/
def fourLags (W : FVec F S160x256 .f32) (V : Fin 32 → FVec F S128x256 .f32) : FVec F S128x256 .f32 :=
  addf (addf (addf (addf (broadcast S128x256 zero) (lagSum W V 0 (by decide) 1 (by decide)))
    (lagSum W V 32 (by decide) 5 (by decide))) (lagSum W V 64 (by decide) 10 (by decide)))
    (lagSum W V 96 (by decide) 21 (by decide))

/-- All five. -/
def context (W : FVec F S160x256 .f32) (V : Fin 32 → FVec F S128x256 .f32) : FVec F S128x256 .f32 :=
  addf (fourLags W V) (lagSum W V 128 (by decide) 30 (by decide))

/-- A column repeated across the times. -/
def across (b : FVec F S128x1 .f32) : FVec F S128x256 .f32 := broadcastTo S128x256 b broadcasts_S128x1_S128x256

/-- A row vector as a column. -/
def col (x : Vec F S1x128 .f32) : FVec F S128x1 .f32 :=
  transpose S128x1 [1, 0] (shapeCast S1x128 x shapeCasts_S1x128_S1x128) transposes_S1x128_p1_0_S128x1

/-- A bias: the column with its casts, repeated across the times. -/
def bias (x : Vec F S1x128 .f32) : FVec F S128x256 .f32 :=
  across (shapeCast S128x1 (col x) shapeCasts_S128x1_S128x1)

/-- A layer: the weights against the table, and the bias. -/
def layer (W : Vec F S128x128 .f32) (b : Vec F S1x128 .f32) (X : FVec F S128x256 .f32) : FVec F S128x256 .f32 :=
  addf (matmul dot_S128x128_S128x256_S128x256_1_0_0_1_n_n none (truncf .bf16 W bitsLt_bf16_f32)
    (truncf .bf16 X bitsLt_bf16_f32) (constant S128x256 .f32 0x00000000#32)) (bias b)

/-- The exponential linear unit. -/
def unit (X : FVec F S128x256 .f32) : FVec F S128x256 .f32 :=
  select (cmpf .ogt X (broadcast S128x256 zero)) X
    (subf (exp (minimumf X (broadcast S128x256 zero))) (broadcast S128x256 (Scalar.ofBits .f32 0x3F800000#32)))

/-- The mean over the hidden axis. -/
def mean (X : FVec F S128x256 .f32) : FVec F S1x256 .f32 :=
  divf (shapeCast S1x256 (multiReduction .add [0] S256 X 0x00000000#32 reduces_S128x256_S256 (.inl rfl) rfl)
    shapeCasts_S256_S1x256) (broadcast S1x256 (Scalar.ofBits .f32 0x43000000#32))

/-- A row repeated down the hidden axis. -/
def over (X : FVec F S1x256 .f32) : FVec F S128x256 .f32 := broadcastTo S128x256 X broadcasts_S1x256_S128x256

/-- The normalisation, without its shift. -/
def normal (g : Vec F S1x128 .f32) (X : FVec F S128x256 .f32) : FVec F S128x256 .f32 :=
  divf (mulf (across (col g)) (subf X (over (mean X))))
    (over (sqrt (addf (mean (mulf (subf X (over (mean X))) (subf X (over (mean X)))))
      (broadcast S1x256 (Scalar.ofBits .f32 0x3727C5AC#32)))))

/-- The two layers' output added to their input. -/
def residual (W1 W2 : Vec F S128x128 .f32) (b1 b2 : Vec F S1x128 .f32) (X : FVec F S128x256 .f32) : FVec F S128x256 .f32 :=
  addf X (layer W2 b2 (unit (layer W1 b1 X)))

/-- From the weighed values to the block that is stored. -/
def finish (W1 W2 : Vec F S128x128 .f32) (b1 b2 g b : Vec F S1x128 .f32) (X : FVec F S128x256 .f32) :
    Vec F S1x256x128 .f32 :=
  shapeCast S1x256x128
    (transpose S256x128 [1, 0] (addf (normal g (residual W1 W2 b1 b2 X)) (across (col b)))
      transposes_S128x256_p1_0_S256x128)
    shapeCasts_S256x128_S1x256x128

/-- The queries, hidden down and time across. -/
def query (b : Vec F S1x128 .f32) (W : Vec F S128x128 .f32) (T : Vec F S1x256x128 .f32) : FVec F S128x256 .f32 :=
  extf .f32 (truncf .bf16 (addf (matmul dot_S128x128_S256x128_S128x256_1_1_0_0_n_n none
    (truncf .bf16 W bitsLt_bf16_f32)
    (truncf .bf16 (shapeCast S256x128 T shapeCasts_S1x256x128_S256x128) bitsLt_bf16_f32)
    (constant S128x256 .f32 0x00000000#32)) (bias b)) bitsLt_bf16_f32) bitsLt_bf16_f32

/-- The mask as one bit for each peer. -/
def maskOf (M : Vec F S1x32x1 .i32) : IVec S32x1 1 :=
  cmpi .ne (shapeCast S32x1 M shapeCasts_S1x32x1_S32x1) (constantI S32x1 32 0#32)

variable (x0 : Vec F S1x256x128 .f32) (x1 : Vec F S1x32x256x128 .f32) (x2 : Vec F S1x32x1 .i32)
  (x3 x4 x5 x6 x7 : Vec F S128x128 .f32) (x8 x9 x10 x11 x12 x13 x14 : Vec F S1x128 .f32)

/-- The peers as the kernel holds them, without the leading axis. -/
abbrev peers : FVec F S32x256x128 .f32 := shapeCast S32x256x128 (View.ld x1 r0_3) shapeCasts_S1x32x256x128_S32x256x128

/-- The keys and the values of peer `n`, from the block's inputs. -/
abbrev keys : Fin 32 → FVec F S128x256 .f32 :=
  keyOf (bias (View.ld x9 r0_0)) (truncf .bf16 (View.ld x4 r0_2) bitsLt_bf16_f32) (peers x1)
abbrev vals : Fin 32 → FVec F S128x256 .f32 :=
  proj (bias (View.ld x10 r0_0)) (truncf .bf16 (View.ld x5 r0_2) bitsLt_bf16_f32) (peers x1)

/-- The queries and the mask, from the block's inputs. -/
abbrev queries : FVec F S128x256 .f32 := query (View.ld x8 r0_0) (View.ld x3 r0_2) (View.ld x0 r0_1)
abbrev bits : IVec S32x1 1 := maskOf (View.ld x2 r0_4)

/-- The first lag's scores. -/
theorem scores_1 :
    k0_pay360 x0 x1 x2 x3 x4 x5 x6 x7 x8 x9 x10 x11 x12 x13 x14
      = scores (bits x2) (queries x0 x3 x8) (keys x1 x4 x9) 1 (by decide) := rfl

/-- The second lag's scores. -/
theorem scores_5 :
    k0_pay362 x0 x1 x2 x3 x4 x5 x6 x7 x8 x9 x10 x11 x12 x13 x14
      = scores (bits x2) (queries x0 x3 x8) (keys x1 x4 x9) 5 (by decide) := rfl

/-- The third lag's scores. -/
theorem scores_10 :
    k0_pay364 x0 x1 x2 x3 x4 x5 x6 x7 x8 x9 x10 x11 x12 x13 x14
      = scores (bits x2) (queries x0 x3 x8) (keys x1 x4 x9) 10 (by decide) := rfl

/-- The fourth lag's scores. -/
theorem scores_21 :
    k0_pay366 x0 x1 x2 x3 x4 x5 x6 x7 x8 x9 x10 x11 x12 x13 x14
      = scores (bits x2) (queries x0 x3 x8) (keys x1 x4 x9) 21 (by decide) := rfl

/-- The last lag's inner products. -/
theorem rows_30 :
    k0_pay368 x0 x1 x2 x3 x4 x5 x6 x7 x8 x9 x10 x11 x12 x13 x14
      = rows (left 128 30 (by decide) zero (queries x0 x3 x8)) (keys x1 x4 x9) := rfl

/-- The five lags' scores. -/
theorem scores_all :
    k0_pay369 x0 x1 x2 x3 x4 x5 x6 x7 x8 x9 x10 x11 x12 x13 x14
      = allScores (bits x2) (queries x0 x3 x8) (keys x1 x4 x9) := rfl

/-- The weights. -/
theorem weights_all :
    k0_pay372 x0 x1 x2 x3 x4 x5 x6 x7 x8 x9 x10 x11 x12 x13 x14
      = weights (allScores (bits x2) (queries x0 x3 x8) (keys x1 x4 x9)) := rfl

/-- The block that is stored. -/
theorem block_eq :
    out0_15 x0 x1 x2 x3 x4 x5 x6 x7 x8 x9 x10 x11 x12 x13 x14
      = View.canon [⟨r0_1, finish (View.ld x6 r0_2) (View.ld x7 r0_2) (View.ld x11 r0_0) (View.ld x12 r0_0)
          (View.ld x13 r0_0) (View.ld x14 r0_0)
          (context (weights (allScores (bits x2) (queries x0 x3 x8) (keys x1 x4 x9))) (vals x1 x5 x10))⟩] := rfl

end Cert.Model
-- ==== Proof.TopEight.lean ====
/-
  The mathematics of the eight greatest scores, on extended reals and apart from any program.

  One side removes the greatest value eight times, keeps every position whose value is at least the last one removed,
  and normalises the exponentials of what it keeps (`keepWeight`). The other side sorts the values in decreasing
  order, takes the first eight and normalises their exponentials (`sortWeight`). `sum_keepWeight` says that the two
  weighted sums are equal when either every value is `⊥`, or the greatest value is below `⊤` and the first nine values
  in decreasing order are strictly decreasing.
-/
module

public import Idealize.ShloMosaic.PureOps.Ideal

@[expose] public section

noncomputable section

namespace Cert.TopEight

open Idealize.ShloMosaic

variable {ι κ : Type} [Fintype ι] [Fintype κ]

/-- The greatest of finitely many values, `⊥` if there are none. -/
def top (f : ι → EReal) : EReal := Finset.univ.fold max ⊥ f

theorem le_top (f : ι → EReal) (p : ι) : f p ≤ top f := by
  have : top f = Finset.univ.sup f := rfl
  rw [this]; exact Finset.le_sup (Finset.mem_univ p)

/-- A value that is attained and bounds every value is the greatest. -/
theorem top_eq {f : ι → EReal} {a : EReal} (p : ι) (hp : f p = a) (h : ∀ q, f q ≤ a) : top f = a := by
  refine le_antisymm ?_ (hp ▸ le_top f p)
  have : top f = Finset.univ.sup f := rfl
  rw [this]; exact Finset.sup_le fun q _ => h q

theorem top_bot : top (fun _ : ι => (⊥ : EReal)) = ⊥ := by
  have : top (fun _ : ι => (⊥ : EReal)) = Finset.univ.sup fun _ => ⊥ := rfl
  rw [this]; exact Finset.sup_bot _

/-- The greatest of the values does not depend on how the positions are named. -/
theorem top_comp (e : κ ≃ ι) (f : ι → EReal) : top (f ∘ e) = top f := by
  refine le_antisymm ?_ ?_
  · have : top (f ∘ e) = Finset.univ.sup (f ∘ e) := rfl
    rw [this]; exact Finset.sup_le fun q _ => le_top f (e q)
  · have : top f = Finset.univ.sup f := rfl
    rw [this]; exact Finset.sup_le fun q _ => by simpa using le_top (f ∘ e) (e.symm q)

/-- The values after `i` rounds, each of which lowers every position holding the greatest value to `⊥`. -/
def peel (f : ι → EReal) : ℕ → ι → EReal
  | 0 => f
  | i + 1 => fun p => if peel f i p = top (peel f i) then ⊥ else peel f i p

theorem peel_comp (e : κ ≃ ι) (f : ι → EReal) (i : ℕ) : peel (f ∘ e) i = peel f i ∘ e := by
  induction i with
  | zero => rfl
  | succ i ih =>
    funext p
    simp only [peel, Function.comp_apply]
    rw [ih, top_comp]
    rfl

/-- The shift of the exponentials: the greatest value, read as zero when it is `⊥`. -/
def shift (f : ι → EReal) : EReal := if top f = ⊥ then 0 else top f

/-- What a position contributes before normalising: the exponential of its shifted value if the value is at least the
    eighth greatest, and zero otherwise. -/
def keep (f : ι → EReal) (p : ι) : EReal :=
  if top (peel f 7) ≤ f p then (if f p = ⊥ then 0 else Ideal.exp (f p - shift f)) else 0

/-- The weight of a position: its contribution over the sum of all contributions, zero when that sum is not positive. -/
def keepWeight (f : ι → EReal) (p : ι) : EReal :=
  if 0 < ∑ q, keep f q then Ideal.div (keep f p) (∑ q, keep f q) else 0

theorem shift_comp (e : κ ≃ ι) (f : ι → EReal) : shift (f ∘ e) = shift f := by
  unfold shift; rw [top_comp]

theorem keep_comp (e : κ ≃ ι) (f : ι → EReal) (p : κ) : keep (f ∘ e) p = keep f (e p) := by
  unfold keep; rw [peel_comp, top_comp, shift_comp]; rfl

/-- The weights do not depend on how the positions are named. -/
theorem keepWeight_comp (e : κ ≃ ι) (f : ι → EReal) (p : κ) : keepWeight (f ∘ e) p = keepWeight f (e p) := by
  have h : ∑ q, keep (f ∘ e) q = ∑ q, keep f q := by
    rw [← Equiv.sum_comp e (keep f)]
    exact Finset.sum_congr rfl fun q _ => keep_comp e f q
  unfold keepWeight
  rw [h, keep_comp]

/-- The finite stand-in for an infinite value among the eight greatest. -/
def finite (x y : EReal) : EReal := if max x (-x) = ⊤ then y else x

/-- The weight of the `j`-th of eight values `g`: the softmax of the values with every infinite one replaced by `y`,
    times zero if all eight are infinite and one if not. -/
def sortWeight (y : EReal) (g : Fin 8 → EReal) (j : Fin 8) : EReal :=
  Ideal.div (Ideal.exp (finite (g j) y - top fun k => finite (g k) y))
      (∑ i, Ideal.exp (finite (g i) y - top fun k => finite (g k) y))
    * (if ∀ k, max (g k) (-g k) = ⊤ then 0 else 1)

/-- The first nine values in decreasing order decide the weights: all `⊥`, or strictly decreasing from below `⊤`. -/
def Decided (g : ℕ → EReal) : Prop :=
  g 0 = ⊥ ∨ (g 0 < ⊤ ∧ ∀ j < 8, g (j + 1) < g j)

/-! ### No value above `⊥` -/

theorem keep_bot (p : ι) : keep (fun _ : ι => (⊥ : EReal)) p = 0 := by
  simp [keep]

theorem keepWeight_bot (p : ι) : keepWeight (fun _ : ι => (⊥ : EReal)) p = 0 := by
  have h : ∑ q : ι, keep (fun _ : ι => (⊥ : EReal)) q = 0 := Finset.sum_eq_zero fun q _ => keep_bot q
  unfold keepWeight
  rw [h, if_neg (lt_irrefl _)]

theorem sortWeight_bot (y : EReal) (j : Fin 8) : sortWeight y (fun _ => ⊥) j = 0 := by
  simp [sortWeight]

/-! ### The first nine values strictly decreasing -/

section Live

variable {n : ℕ} {f : Fin n → EReal} {σ : ℕ → Fin n}

/-- `σ` lists the positions in decreasing order of their values. -/
structure Sorts (f : Fin n → EReal) (σ : ℕ → Fin n) : Prop where
  onto : ∀ p, ∃ j < n, σ j = p
  anti : ∀ i j, i ≤ j → j < n → f (σ j) ≤ f (σ i)

variable (h : Sorts f σ) (hn : 8 < n) (hlt : ∀ j < 8, f (σ (j + 1)) < f (σ j))

include h hn hlt

/-- Before the eighth place a value occurs at one position only. -/
theorem eq_of_value {i : ℕ} (hi : i < 8) {p : Fin n} (hp : f p = f (σ i)) : p = σ i := by
  obtain ⟨j, hj, rfl⟩ := h.onto p
  rcases lt_trichotomy j i with hji | rfl | hij
  · exact absurd hp (ne_of_gt (lt_of_le_of_lt (h.anti (j + 1) i hji (by omega)) (hlt j (by omega))))
  · rfl
  · exact absurd hp (ne_of_lt (lt_of_le_of_lt (h.anti (i + 1) j hij hj) (hlt i hi)))

/-- After `i` rounds the first `i` positions are lowered and the others stand, and the greatest left is the next. -/
theorem peel_eq (i : ℕ) (hi : i < 8) :
    (∀ p, peel f i p = if ∃ j < i, p = σ j then ⊥ else f p) ∧ top (peel f i) = f (σ i) := by
  induction i with
  | zero =>
    refine ⟨fun p => by simp [peel], top_eq (σ 0) rfl fun q => ?_⟩
    obtain ⟨j, hj, rfl⟩ := h.onto q
    exact h.anti 0 j (Nat.zero_le _) hj
  | succ i ih =>
    obtain ⟨hpeel, htop⟩ := ih (by omega)
    have hnext : ∀ p, peel f (i + 1) p = if ∃ j < i + 1, p = σ j then ⊥ else f p := by
      intro p
      have hbot : (⊥ : EReal) ≠ f (σ i) := ne_of_lt (lt_of_le_of_lt bot_le (hlt i (by omega)))
      simp only [peel]
      rw [htop, hpeel p]
      by_cases h1 : ∃ j < i, p = σ j
      · have h2 : ∃ j < i + 1, p = σ j := by
          obtain ⟨j, hj, hp⟩ := h1
          exact ⟨j, by omega, hp⟩
        rw [if_pos h1, if_pos h2, if_neg hbot]
      · rw [if_neg h1]
        by_cases h3 : f p = f (σ i)
        · rw [if_pos h3, if_pos ⟨i, by omega, eq_of_value h hn hlt (by omega) h3⟩]
        · rw [if_neg h3, if_neg]
          rintro ⟨j, hj, rfl⟩
          rcases Nat.lt_succ_iff_lt_or_eq.mp hj with hj | rfl
          · exact h1 ⟨j, hj, rfl⟩
          · exact h3 rfl
    refine ⟨hnext, top_eq (σ (i + 1)) ?_ fun q => ?_⟩
    · rw [hnext, if_neg]
      rintro ⟨j, hj, hp⟩
      have : f (σ (i + 1)) < f (σ j) :=
        lt_of_le_of_lt (h.anti (j + 1) (i + 1) (by omega) (by omega)) (hlt j (by omega))
      rw [hp] at this
      exact lt_irrefl _ this
    · rw [hnext]
      split_ifs with h1
      · exact bot_le
      · obtain ⟨j, hj, rfl⟩ := h.onto q
        refine h.anti (i + 1) j ?_ hj
        by_contra hc
        exact h1 ⟨j, by omega, rfl⟩

/-- The values kept are those of the first eight positions. -/
theorem keep_eq (h0 : f (σ 0) < ⊤) (p : Fin n) :
    keep f p = if ∃ j < 8, p = σ j then Ideal.exp (f p - f (σ 0)) else 0 := by
  have ht : top f = f (σ 0) := (peel_eq h hn hlt 0 (by omega)).2
  have hb : ∀ j < 8, ⊥ < f (σ j) := fun j hj => lt_of_le_of_lt bot_le (hlt j hj)
  have hs : shift f = f (σ 0) := by
    unfold shift
    rw [ht, if_neg (ne_of_gt (hb 0 (by omega)))]
  unfold keep
  rw [(peel_eq h hn hlt 7 (by omega)).2, hs]
  by_cases h1 : ∃ j < 8, p = σ j
  · rw [if_pos h1]
    obtain ⟨j, hj, rfl⟩ := h1
    rw [if_pos (h.anti j 7 (by omega) (by omega)), if_neg (ne_of_gt (hb j hj))]
  · rw [if_neg h1, if_neg]
    obtain ⟨j, hj, rfl⟩ := h.onto p
    have : 8 ≤ j := by
      by_contra hc
      exact h1 ⟨j, by omega, rfl⟩
    exact not_le_of_gt (lt_of_le_of_lt (h.anti 8 j this hj) (hlt 7 (by omega)))

/-- The first eight positions are different. -/
theorem first_injective : Function.Injective fun j : Fin 8 => σ j.val := by
  intro i j hij
  have key : ∀ a b : ℕ, a < b → b < 8 → σ a ≠ σ b := fun a b hab hb he => by
    have := lt_of_le_of_lt (h.anti (a + 1) b hab (by omega)) (hlt a (by omega))
    rw [he] at this
    exact lt_irrefl _ this
  rcases lt_trichotomy i.val j.val with hl | he | hg
  · exact absurd hij (key _ _ hl j.isLt)
  · exact Fin.ext he
  · exact absurd hij.symm (key _ _ hg i.isLt)

/-- A sum of terms that vanish off the first eight positions is the sum over those eight. -/
theorem sum_first [DecidablePred fun p : Fin n => ∃ j < 8, p = σ j] (t : Fin n → EReal) :
    (∑ p : Fin n, if ∃ j < 8, p = σ j then t p else 0) = ∑ j : Fin 8, t (σ j.val) := by
  rw [← Finset.sum_filter]
  have : (Finset.univ.filter fun p : Fin n => ∃ j < 8, p = σ j) = Finset.univ.map ⟨_, first_injective h hn hlt⟩ := by
    ext p
    simp only [Finset.mem_filter, Finset.mem_univ, true_and, Finset.mem_map, Function.Embedding.coeFn_mk]
    constructor
    · rintro ⟨j, hj, rfl⟩; exact ⟨⟨j, hj⟩, rfl⟩
    · rintro ⟨j, rfl⟩; exact ⟨j.val, j.isLt, rfl⟩
  rw [this, Finset.sum_map]
  rfl

/-- The first eight values are finite. -/
theorem finite_first (h0 : f (σ 0) < ⊤) (j : ℕ) (hj : j < 8) : ¬ max (f (σ j)) (-f (σ j)) = ⊤ := by
  have hb : ⊥ < f (σ j) := lt_of_le_of_lt bot_le (hlt j hj)
  have ht : f (σ j) < ⊤ := lt_of_le_of_lt (h.anti 0 j (by omega) (by omega)) h0
  rw [max_eq_iff]
  rintro (⟨h1, -⟩ | ⟨h1, -⟩)
  · exact ne_of_lt ht h1
  · rw [EReal.neg_eq_top_iff] at h1
    exact ne_of_gt hb h1

end Live

/-- The exponential is not negative. -/
theorem exp_nonneg (x : EReal) : 0 ≤ Ideal.exp x := by
  induction x with
  | bot => simp
  | top => simp
  | coe r => rw [Ideal.exp_coe]; exact_mod_cast (Real.exp_pos r).le

/-- **The two weighted sums are equal**: over all positions with the weights of `keepWeight`, and over the eight
    first positions in decreasing order with the weights of `sortWeight`. -/
theorem sum_keepWeight {n : ℕ} {f : Fin n → EReal} {σ : ℕ → Fin n} (h : Sorts f σ) (hn : 8 < n)
    (hd : Decided fun j => f (σ j)) (y : EReal) (v : Fin n → EReal) :
    ∑ p, keepWeight f p * v p = ∑ j : Fin 8, sortWeight y (fun k => f (σ k.val)) j * v (σ j.val) := by
  rcases hd with h0 | ⟨h0, hlt⟩
  · have hf : f = fun _ => ⊥ := by
      funext p
      obtain ⟨j, hj, rfl⟩ := h.onto p
      exact le_bot_iff.mp (h0 ▸ h.anti 0 j (Nat.zero_le _) hj)
    subst hf
    rw [Finset.sum_eq_zero fun p _ => by rw [keepWeight_bot, zero_mul],
      Finset.sum_eq_zero fun j _ => by rw [sortWeight_bot, zero_mul]]
  · have hk := keep_eq h hn hlt h0
    have hsum : ∑ q, keep f q = ∑ j : Fin 8, Ideal.exp (f (σ j.val) - f (σ 0)) := by
      rw [← sum_first h hn hlt fun p => Ideal.exp (f p - f (σ 0))]
      exact Finset.sum_congr rfl fun q _ => hk q
    have hpos : 0 < ∑ j : Fin 8, Ideal.exp (f (σ j.val) - f (σ 0)) := by
      have hb : ⊥ < f (σ 0) := lt_of_le_of_lt bot_le (hlt 0 (by omega))
      have h1 : (1 : EReal) ≤ Ideal.exp (f (σ (0 : Fin 8).val) - f (σ 0)) := by
        show (1 : EReal) ≤ Ideal.exp (f (σ 0) - f (σ 0))
        rw [EReal.sub_self (ne_of_lt h0) (ne_of_gt hb)]
        have : ((0 : ℝ) : EReal) = 0 := rfl
        rw [← this, Ideal.exp_coe, Real.exp_zero]
        exact le_refl _
      refine lt_of_lt_of_le zero_lt_one (h1.trans ?_)
      exact Finset.single_le_sum (f := fun j : Fin 8 => Ideal.exp (f (σ j.val) - f (σ 0)))
        (fun j _ => exp_nonneg _) (Finset.mem_univ 0)
    have hfin : ∀ k : Fin 8, finite (f (σ k.val)) y = f (σ k.val) := fun k =>
      if_neg (finite_first h hn hlt h0 k.val k.isLt)
    have htop : (top fun k : Fin 8 => finite (f (σ k.val)) y) = f (σ 0) :=
      top_eq 0 (hfin 0) fun k => by
        rw [hfin]; exact h.anti 0 k.val (Nat.zero_le _) (by omega)
    have hsw : ∀ j : Fin 8, sortWeight y (fun k => f (σ k.val)) j
        = Ideal.div (Ideal.exp (f (σ j.val) - f (σ 0))) (∑ i : Fin 8, Ideal.exp (f (σ i.val) - f (σ 0))) := by
      intro j
      unfold sortWeight
      rw [htop, if_neg (fun hall => finite_first h hn hlt h0 0 (by omega) (hall 0)), mul_one]
      simp only [hfin]
    have hkw : ∀ p, keepWeight f p * v p = if ∃ j < 8, p = σ j then
        Ideal.div (Ideal.exp (f p - f (σ 0))) (∑ i : Fin 8, Ideal.exp (f (σ i.val) - f (σ 0))) * v p else 0 := by
      intro p
      unfold keepWeight
      rw [hsum, if_pos hpos, hk p]
      by_cases h1 : ∃ j < 8, p = σ j
      · rw [if_pos h1, if_pos h1]
      · rw [if_neg h1, if_neg h1]
        have : Ideal.div 0 (∑ i : Fin 8, Ideal.exp (f (σ i.val) - f (σ 0))) = 0 := by
          unfold Ideal.div
          rw [if_neg (ne_of_gt hpos), zero_mul]
        rw [this, zero_mul]
    simp only [hkw, hsw]
    exact sum_first h hn hlt fun p =>
      Ideal.div (Ideal.exp (f p - f (σ 0))) (∑ i : Fin 8, Ideal.exp (f (σ i.val) - f (σ 0))) * v p

end Cert.TopEight
-- ==== Proof.Spec.lean ====
/- The mathematics both programs compute, over the extended reals: the projections, the scores of the
   thirty-two peers at the five lags, the two layers and the normalisation. -/
module

public import proofs.«01_k».proof.Proof.TopEight
public import Idealize.ShloMosaic.Lib.Pointwise

@[expose] public section

noncomputable section

namespace Cert.Spec

open Idealize.ShloMosaic

/-- The five lags. -/
def lag : Fin 5 → Nat := ![1, 5, 10, 21, 30]

theorem lag_le (l : Fin 5) : lag l ≤ 256 := by fin_cases l <;> simp [lag]

/-- The time a lag looks back to. -/
def back (t : Fin 256) (l : Fin 5) : Fin 256 := ⟨t.val - lag l, by have := t.isLt; omega⟩

/-- A linear map with its bias. -/
def proj (W : Fin 128 → Fin 128 → EReal) (b x : Fin 128 → EReal) (h : Fin 128) : EReal :=
  (∑ d : Fin 128, W h d * x d) + b h

/-- The score at time `t` of a peer at a lag, from the time's query and the peer's keys: the scaled inner
    product with the key the lag looks back to; minus infinity if the peer is masked or there is no such time. -/
def score (q : Fin 128 → EReal) (k : Fin 32 → Fin 256 → Fin 128 → EReal) (mask : Fin 32 → BitVec 1) (t : Fin 256)
    (n : Fin 32) (l : Fin 5) : EReal :=
  if lag l ≤ t.val then
    if mask n = 1#1 then (∑ h : Fin 128, q h * k n (back t l) h) * (((Real.sqrt 128)⁻¹ : ℝ) : EReal) else ⊥
  else ⊥

/-- The exponential linear unit. -/
def elu (x : EReal) : EReal := if 0 < x then x else Ideal.exp (min x 0) - 1

/-- The constants of the normalisation. -/
def width : EReal := Ideal.ofBits .f32 0x43000000#32
def eps : EReal := Ideal.ofBits .f32 0x3727C5AC#32

/-- The mean over the hidden axis. -/
def mean (x : Fin 128 → EReal) : EReal := Ideal.div (∑ h : Fin 128, x h) width

/-- The two layers' output added to their input. -/
def residual (W1 W2 : Fin 128 → Fin 128 → EReal) (b1 b2 x : Fin 128 → EReal) (h : Fin 128) : EReal :=
  x h + proj W2 b2 (fun d => elu (proj W1 b1 x d)) h

/-- The normalisation. -/
def normal (g b x : Fin 128 → EReal) (h : Fin 128) : EReal :=
  Ideal.div (g h * (x h - mean x)) (Ideal.sqrt (mean (fun d => (x d - mean x) * (x d - mean x)) + eps)) + b h

/-- The fifteen arguments: the target's and the peers' frames, the peers' mask, then the weights and the
    biases of the five projections and the normalisation's scale and shift. -/
structure Args where
  target : (⟨3, ![4, 256, 128]⟩ : Shape).Idx → EReal
  peers : (⟨4, ![4, 32, 256, 128]⟩ : Shape).Idx → EReal
  mask : (⟨2, ![4, 32]⟩ : Shape).Idx → BitVec 1
  WQ : (⟨2, ![128, 128]⟩ : Shape).Idx → EReal
  bQ : (⟨1, ![128]⟩ : Shape).Idx → EReal
  WK : (⟨2, ![128, 128]⟩ : Shape).Idx → EReal
  bK : (⟨1, ![128]⟩ : Shape).Idx → EReal
  WV : (⟨2, ![128, 128]⟩ : Shape).Idx → EReal
  bV : (⟨1, ![128]⟩ : Shape).Idx → EReal
  W1 : (⟨2, ![128, 128]⟩ : Shape).Idx → EReal
  b1 : (⟨1, ![128]⟩ : Shape).Idx → EReal
  W2 : (⟨2, ![128, 128]⟩ : Shape).Idx → EReal
  b2 : (⟨1, ![128]⟩ : Shape).Idx → EReal
  g : (⟨1, ![128]⟩ : Shape).Idx → EReal
  b : (⟨1, ![128]⟩ : Shape).Idx → EReal

namespace Args

variable (A : Args)

/-- The query of batch `i` at time `t`, and peer `n`'s key and value there. -/
def query (i : Fin 4) (t : Fin 256) : Fin 128 → EReal :=
  proj (fun h d => A.WQ (ix2 h d)) (fun h => A.bQ (ix1 h)) fun d => A.target (ix3 i t d)
def key (i : Fin 4) (n : Fin 32) (t : Fin 256) : Fin 128 → EReal :=
  proj (fun h d => A.WK (ix2 h d)) (fun h => A.bK (ix1 h)) fun d => A.peers (ix4 i n t d)
def value (i : Fin 4) (n : Fin 32) (t : Fin 256) : Fin 128 → EReal :=
  proj (fun h d => A.WV (ix2 h d)) (fun h => A.bV (ix1 h)) fun d => A.peers (ix4 i n t d)

/-- The scores of batch `i` at time `t`, for each peer and lag. -/
def scores (i : Fin 4) (t : Fin 256) (p : Fin 32 × Fin 5) : EReal :=
  score (A.query i t) (A.key i) (fun n => A.mask (ix2 i n)) t p.1 p.2

/-- The values weighed by the scores' weights: of the scores that reach the eighth greatest. -/
def context (i : Fin 4) (t : Fin 256) (h : Fin 128) : EReal :=
  ∑ p : Fin 32 × Fin 5, TopEight.keepWeight (A.scores i t) p * A.value i p.1 (back t p.2) h

/-- The result from the weighed values of one batch and time. -/
def finish (x : Fin 128 → EReal) : Fin 128 → EReal :=
  normal (fun h => A.g (ix1 h)) (fun h => A.b (ix1 h))
    (residual (fun h d => A.W1 (ix2 h d)) (fun h d => A.W2 (ix2 h d)) (fun h => A.b1 (ix1 h)) (fun h => A.b2 (ix1 h)) x)

/-- The result. -/
def result : (⟨3, ![4, 256, 128]⟩ : Shape).Idx → EReal := fun j => A.finish (A.context (j 0) (j 1)) (j 2)

end Args

/-- A score of minus infinity weighs nothing. -/
theorem weight_of_bot {ι : Type} [Fintype ι] {f : ι → EReal} {p : ι} (h : f p = ⊥) : TopEight.keepWeight f p = 0 := by
  have e : TopEight.keep f p = 0 := by
    unfold TopEight.keep
    split <;> simp [h]
  unfold TopEight.keepWeight
  split
  · rename_i hs
    rw [e, Ideal.div, if_neg hs.ne', zero_mul]
  · rfl

/-- A sum over the lags, each only from its own time on, of what the peers weigh is the sum over all peers and
    lags: before a lag's time its scores are minus infinity and weigh nothing. -/
theorem sum_lags (A : Args) (i : Fin 4) (t : Fin 256) (w : Fin 5 → Fin 32 → EReal) (v : Fin 32 → Fin 5 → EReal)
    (hw : ∀ l n, w l n = TopEight.keepWeight (A.scores i t) (n, l)) :
    (∑ l : Fin 5, if lag l ≤ t.val then ∑ n : Fin 32, w l n * v n l else 0)
      = ∑ p : Fin 32 × Fin 5, TopEight.keepWeight (A.scores i t) p * v p.1 p.2 := by
  rw [Fintype.sum_prod_type_right]
  refine Finset.sum_congr rfl fun l _ => ?_
  split
  · exact Finset.sum_congr rfl fun n _ => by rw [hw]
  · rename_i hl
    refine (Finset.sum_eq_zero fun n _ => ?_).symm
    rw [weight_of_bot (by unfold Args.scores score; exact if_neg hl), zero_mul]

end Cert.Spec
-- ==== Proof.Block.lean ====
/- What each table of the kernel's block holds at an index, over the extended reals. -/
module

public import proofs.«01_k».proof.Proof.Model
public import proofs.«01_k».proof.Proof.Spec

@[expose] public section

set_option maxRecDepth 16384

noncomputable section

namespace Cert.Block

open Idealize.ShloMosaic Cert.KernelIdeal Cert.KernelIdeal.Gen Cert.Shift Cert.Model

theorem zero_eq : (zero : Ideal .f32) = (0 : EReal) := by
  show Ideal.ofBits .f32 0 = 0
  simp [Ideal.ofBits, Ideal.ieee]

theorem ninf_eq : (ninf : Ideal .f32) = (⊥ : EReal) := by
  show Ideal.ofBits .f32 0xFF800000#32 = ⊥
  simp [Ideal.ofBits, Ideal.ieee]

theorem scale_eq : (scale : Ideal .f32) = (((Real.sqrt 128)⁻¹ : ℝ) : EReal) := by
  simp [scale, Named.named, κ]

/-- A bias at hidden coordinate `h`, at every time. -/
theorem bias_apply (x : Vec Ideal S1x128 .f32) (h : Fin 128) (t : Fin 256) :
    bias x (ix2 h t) = x (ix2 0 h) := by
  unfold bias across col
  pointwise

theorem col_apply (x : Vec Ideal S1x128 .f32) (h : Fin 128) (t : Fin 256) :
    across (col x) (ix2 h t) = x (ix2 0 h) := by
  unfold across col
  pointwise

/-- The inner product at a time. -/
theorem row_apply (Q K : FVec Ideal S128x256 .f32) (t : Fin 256) :
    row Q K (ix2 0 t) = ∑ h : Fin 128, Q (ix2 h t) * K (ix2 h t) := by
  unfold row
  pointwise

theorem proj_apply (b : FVec Ideal S128x256 .f32) (W : FVec Ideal S128x128 .bf16) (P : FVec Ideal S32x256x128 .f32)
    (n : Fin 32) (h : Fin 128) (t : Fin 256) :
    proj b W P n (ix2 h t) = (∑ d : Fin 128, W (ix2 h d) * P (ix3 n t d)) + b (ix2 h t) := by
  unfold proj peerOf
  pointwise

theorem query_apply (b : Vec Ideal S1x128 .f32) (W : Vec Ideal S128x128 .f32) (T : Vec Ideal S1x256x128 .f32)
    (h : Fin 128) (t : Fin 256) :
    query b W T (ix2 h t) = (∑ d : Fin 128, W (ix2 h d) * T (ix3 0 t d)) + b (ix2 0 h) := by
  unfold query
  pointwise [bias_apply]

theorem maskOf_apply (M : Vec Ideal S1x32x1 .i32) (n : Fin 32) :
    maskOf M (ix2 n 0) = IntOp.cmpi .ne (M (ix3 0 n 0)) 0#32 := by
  unfold maskOf
  pointwise

/-- A bit widened to a word is not zero exactly if it is one. -/
theorem cmpi_bit : ∀ b : BitVec 1, IntOp.cmpi .ne (b.setWidth 32) 0#32 = b := by decide

theorem masked_apply (mask : IVec S32x1 1) (X : FVec Ideal S32x256 .f32) (n : Fin 32) (t : Fin 256) :
    masked mask X (ix2 n t)
      = if mask (ix2 n 0) = 1#1 then X (ix2 n t) * (((Real.sqrt 128)⁻¹ : ℝ) : EReal) else ⊥ := by
  unfold masked
  pointwise [scale_eq, ninf_eq]
  rfl

theorem colMax_apply (X : FVec Ideal S160x256 .f32) (t : Fin 256) :
    colMax X (ix2 0 t) = TopEight.top fun r : Fin 160 => X (ix2 r t) := by
  unfold colMax TopEight.top
  pointwise
  rw [show Ideal.ofBits .f32 0xFF800000#32 = ⊥ from ninf_eq]

theorem colSum_apply (X : FVec Ideal S160x256 .f32) (t : Fin 256) :
    colSum X (ix2 0 t) = ∑ r : Fin 160, X (ix2 r t) := by
  unfold colSum
  pointwise

theorem down_apply {α : Type} (X : S1x256.Idx → α) (r : Fin 160) (t : Fin 256) : down X (ix2 r t) = X (ix2 0 t) := by
  unfold down
  pointwise

theorem rowOf_apply (W : FVec Ideal S32x256 .f32) (n : Nat) (hn : n < 32) (h : Fin 128) (t : Fin 256) :
    rowOf W n hn (ix2 h t) = W (ix2 ⟨n, hn⟩ t) := by
  unfold rowOf
  pointwise

theorem peelTab_apply (X : FVec Ideal S160x256 .f32) (i : Nat) (r : Fin 160) (t : Fin 256) :
    peelTab X i (ix2 r t) = TopEight.peel (fun r : Fin 160 => X (ix2 r t)) i r := by
  induction i generalizing r with
  | zero => rfl
  | succ i ih =>
    have e : colMax (peelTab X i) (ix2 0 t) = TopEight.top (TopEight.peel (fun r : Fin 160 => X (ix2 r t)) i) := by
      rw [colMax_apply]; simp only [ih]
    unfold peelTab TopEight.peel
    pointwise [down_apply, e, ih, ninf_eq]

theorem keepTab_apply (X : FVec Ideal S160x256 .f32) (r : Fin 160) (t : Fin 256) :
    keepTab X (ix2 r t) = TopEight.keep (fun r : Fin 160 => X (ix2 r t)) r := by
  have e : colMax (peelTab X 7) (ix2 0 t) = TopEight.top (TopEight.peel (fun r : Fin 160 => X (ix2 r t)) 7) := by
    rw [colMax_apply]; simp only [peelTab_apply]
  unfold keepTab TopEight.keep TopEight.shift
  pointwise [down_apply, e, colMax_apply, ninf_eq, zero_eq]

theorem weights_apply (X : FVec Ideal S160x256 .f32) (r : Fin 160) (t : Fin 256) :
    weights X (ix2 r t) = TopEight.keepWeight (fun r : Fin 160 => X (ix2 r t)) r := by
  unfold weights TopEight.keepWeight
  pointwise [down_apply, colSum_apply, keepTab_apply, ninf_eq, zero_eq]

theorem unit_apply (X : FVec Ideal S128x256 .f32) (h : Fin 128) (t : Fin 256) :
    unit X (ix2 h t) = Spec.elu (X (ix2 h t)) := by
  unfold Model.unit Spec.elu
  pointwise [zero_eq]

theorem layer_apply (W : Vec Ideal S128x128 .f32) (b : Vec Ideal S1x128 .f32) (X : FVec Ideal S128x256 .f32)
    (h : Fin 128) (t : Fin 256) :
    layer W b X (ix2 h t)
      = Spec.proj (fun h d => W (ix2 h d)) (fun h => b (ix2 0 h)) (fun d => X (ix2 d t)) h := by
  unfold layer Spec.proj
  pointwise [bias_apply]

theorem residual_apply (W1 W2 : Vec Ideal S128x128 .f32) (b1 b2 : Vec Ideal S1x128 .f32) (X : FVec Ideal S128x256 .f32)
    (h : Fin 128) (t : Fin 256) :
    Model.residual W1 W2 b1 b2 X (ix2 h t)
      = Spec.residual (fun h d => W1 (ix2 h d)) (fun h d => W2 (ix2 h d)) (fun h => b1 (ix2 0 h))
          (fun h => b2 (ix2 0 h)) (fun d => X (ix2 d t)) h := by
  unfold Model.residual Spec.residual
  pointwise [layer_apply, unit_apply]

theorem mean_apply (X : FVec Ideal S128x256 .f32) (t : Fin 256) :
    Model.mean X (ix2 0 t) = Spec.mean fun h => X (ix2 h t) := by
  unfold Model.mean Spec.mean Spec.width
  pointwise

theorem over_apply (X : FVec Ideal S1x256 .f32) (h : Fin 128) (t : Fin 256) : over X (ix2 h t) = X (ix2 0 t) := by
  unfold over
  pointwise

theorem finish_apply (W1 W2 : Vec Ideal S128x128 .f32) (b1 b2 g b : Vec Ideal S1x128 .f32) (X : FVec Ideal S128x256 .f32)
    (h : Fin 128) (t : Fin 256) :
    finish W1 W2 b1 b2 g b X (ix3 0 t h)
      = Spec.normal (fun h => g (ix2 0 h)) (fun h => b (ix2 0 h))
          (Spec.residual (fun h d => W1 (ix2 h d)) (fun h d => W2 (ix2 h d)) (fun h => b1 (ix2 0 h))
            (fun h => b2 (ix2 0 h)) (fun d => X (ix2 d t))) h := by
  unfold finish Model.normal Spec.normal Spec.eps
  pointwise [col_apply, over_apply, mean_apply, residual_apply]

/-- Thirty-two entries listed one by one: the `n`-th is `f n`. -/
theorem listed_get {β : Type} (f : Fin 32 → β) (n : Fin 32) (h : n.val < 32) :
    [f 0, f 1, f 2, f 3, f 4, f 5, f 6, f 7, f 8, f 9, f 10,
      f 11, f 12, f 13, f 14, f 15, f 16, f 17, f 18, f 19, f 20, f 21,
      f 22, f 23, f 24, f 25, f 26, f 27, f 28, f 29, f 30, f 31][n.val]'h = f n := by
  fin_cases n <;> rfl

/-- The rows before row `n` of thirty-two are `n` rows. -/
theorem rows_before (n : Fin 32) (xs : List ((s : Shape) × (s.Idx → Ideal .f32)))
    (h : xs.map (·.1) = List.replicate 32 S1x256) :
    (((xs.take n.val).map (·.1)).map fun s =>
      if h : s.rank = S32x256.rank then s.size ((0 : Fin 2).cast h.symm) else 0).sum = n.val := by
  rw [List.map_take, h, List.take_replicate, List.map_replicate, List.sum_replicate]
  have := n.isLt
  simp [S1x256, S32x256]

theorem rows_apply (Q : FVec Ideal S128x256 .f32) (K : Fin 32 → FVec Ideal S128x256 .f32) (n : Fin 32) (t : Fin 256) :
    rows Q K (ix2 n t) = ∑ h : Fin 128, Q (ix2 h t) * K n (ix2 h t) := by
  rw [← row_apply]
  unfold rows
  refine concatenate_apply_piece (t := S32x256) 0 _ _ (ix2 n t) n.val ?_ S1x256 (row Q (K n)) ?_ rfl n.val ?_ (ix2 0 t) ?_ ?_
  · exact n.isLt
  · exact listed_get (fun n => (⟨S1x256, row Q (K n)⟩ : (s : Shape) × (s.Idx → Ideal .f32))) n _
  · exact rows_before n _ rfl
  · intro b hb
    fin_cases b
    · exact absurd rfl hb
    · rfl
  · exact Nat.add_zero _

/-- A score of the kernel's: at peer `n` and time `t`. -/
theorem scores_apply (mask : IVec S32x1 1) (Q : FVec Ideal S128x256 .f32) (K : Fin 32 → FVec Ideal S128x256 .f32)
    (l : Fin 5) (n : Fin 32) (t : Fin 256) :
    scores mask Q K (Spec.lag l) (Spec.lag_le l) (ix2 n t)
      = Spec.score (fun h => Q (ix2 h t)) (fun n t h => K n (ix2 h t)) (fun n => mask (ix2 n 0)) t n l := by
  unfold scores Spec.score
  rw [right_apply]
  split
  · rename_i hl
    rw [masked_apply, rows_apply]
    refine if_congr Iff.rfl ?_ rfl
    congr 1
    refine Finset.sum_congr rfl fun h _ => ?_
    rw [left_apply, dif_pos (by show t.val - Spec.lag l + Spec.lag l < 256; have := t.isLt; omega)]
    congr 2
    refine congrArg (ix2 h) (Fin.ext ?_)
    show t.val - Spec.lag l + Spec.lag l = t.val
    omega
  · exact ninf_eq

/-- Row `32 l + n` of the five lags' scores is peer `n`'s at lag `l`. -/
theorem allScores_apply (mask : IVec S32x1 1) (Q : FVec Ideal S128x256 .f32) (K : Fin 32 → FVec Ideal S128x256 .f32)
    (l : Fin 5) (n : Fin 32) (t : Fin 256) :
    allScores mask Q K (ix2 (finProdFinEquiv (l, n)) t)
      = Spec.score (fun h => Q (ix2 h t)) (fun n t h => K n (ix2 h t)) (fun n => mask (ix2 n 0)) t n l := by
  rw [← scores_apply]
  unfold allScores
  refine concatenate_apply_piece (t := S160x256) 0 _ _ (ix2 (finProdFinEquiv (l, n)) t) l.val ?_ S32x256 (scores mask Q K (Spec.lag l) (Spec.lag_le l)) ?_ rfl
    (32 * l.val) ?_ (ix2 n t) ?_ ?_
  · exact l.isLt
  · fin_cases l <;> rfl
  · fin_cases l <;> rfl
  · intro b hb
    fin_cases b
    · exact absurd rfl hb
    · rfl
  · show 32 * l.val + n.val = n.val + 32 * l.val
    omega

theorem weigh_apply (W : FVec Ideal S32x256 .f32) (V : Fin 32 → FVec Ideal S128x256 .f32) (i : Nat) (hi : i < 32)
    (h : Fin 128) (t : Fin 256) :
    weigh W V i hi (ix2 h t)
      = ∑ n : Fin (i + 1), W (ix2 ⟨n.val, by have := n.isLt; omega⟩ t) * V ⟨n.val, by have := n.isLt; omega⟩ (ix2 h t) := by
  induction i with
  | zero =>
    unfold weigh
    pointwise [rowOf_apply]
    simp
  | succ i ih =>
    unfold weigh
    pointwise [rowOf_apply]
    rw [ih (Nat.lt_of_succ_lt hi), Fin.sum_univ_castSucc (n := i + 1)]
    rfl

/-- What lag `l` adds to the weighed values. -/
theorem lagSum_apply (W : FVec Ideal S160x256 .f32) (V : Fin 32 → FVec Ideal S128x256 .f32) (l : Fin 5)
    (hr : 32 * l.val ≤ 128) (h : Fin 128) (t : Fin 256) :
    lagSum W V (32 * l.val) hr (Spec.lag l) (Spec.lag_le l) (ix2 h t)
      = if Spec.lag l ≤ t.val then
          ∑ n : Fin 32, W (ix2 (finProdFinEquiv (l, n)) t) * V n (ix2 h (Spec.back t l))
        else 0 := by
  unfold lagSum
  rw [right_apply]
  split
  · rename_i hl
    rw [weigh_apply]
    refine Finset.sum_congr rfl fun n _ => ?_
    congr 1
    rw [left_apply, dif_pos (by show t.val - Spec.lag l + Spec.lag l < 256; have := t.isLt; omega)]
    unfold lagRows extractStridedSlice
    congr 1
    funext a
    fin_cases a
    · exact Fin.ext (Nat.add_comm _ _)
    · refine Fin.ext ?_
      show 0 + (t.val - Spec.lag l + Spec.lag l) = t.val
      omega
  · exact zero_eq

/-- The weighed values: the sum over the lags. -/
theorem context_apply (W : FVec Ideal S160x256 .f32) (V : Fin 32 → FVec Ideal S128x256 .f32) (h : Fin 128) (t : Fin 256) :
    context W V (ix2 h t)
      = ∑ l : Fin 5, if Spec.lag l ≤ t.val then
          ∑ n : Fin 32, W (ix2 (finProdFinEquiv (l, n)) t) * V n (ix2 h (Spec.back t l))
        else 0 := by
  rw [Fin.sum_univ_five]
  have e := fun (l : Fin 5) => lagSum_apply W V l (by have := l.isLt; omega) h t
  rw [← e 0, ← e 1, ← e 2, ← e 3, ← e 4]
  unfold context fourLags
  pointwise [zero_eq]
  rfl

end Cert.Block
-- ==== Proof.Whole.lean ====
/- What the kernel's result array holds after the run: the mathematics of the arguments, at every index. -/
module

public import proofs.«01_k».proof.Proof.Block
public import proofs.«01_k».proof.Proof.Gen.KernelIdeal.Value
public import Idealize.ShloMosaic.Lib.Pipeline.Value
public import Idealize.ShloMosaic.Lib.StableHlo.Run
public import Idealize.ShloMosaic.Lib.Tactic

@[expose] public section

set_option maxRecDepth 16384

noncomputable section

namespace Cert.Whole

open Idealize.ShloMosaic Idealize.ShloMosaic.TcCoe Idealize.SL.Sem Idealize.ShloMosaic.StableHlo
open Cert.KernelIdeal Cert.KernelIdeal.Gen Cert.Model Cert.Block
open Idealize.ShloMosaic.Pipeline (Dat)

variable (m : (ℓ : Loc nD τ sig) → Buf (Elt Ideal) ℓ)

/-- The arguments as the kernel is launched with them. -/
def args (c : Dev nD) : Spec.Args where
  target := m ((c : Thread nD τ).loc main_arg0)
  peers := m ((c : Thread nD τ).loc main_arg1)
  mask := m ((c : Thread nD τ).loc main_arg2)
  WQ := m ((c : Thread nD τ).loc main_arg3)
  bQ := m ((c : Thread nD τ).loc main_arg4)
  WK := m ((c : Thread nD τ).loc main_arg5)
  bK := m ((c : Thread nD τ).loc main_arg6)
  WV := m ((c : Thread nD τ).loc main_arg7)
  bV := m ((c : Thread nD τ).loc main_arg8)
  W1 := m ((c : Thread nD τ).loc main_arg9)
  b1 := m ((c : Thread nD τ).loc main_arg10)
  W2 := m ((c : Thread nD τ).loc main_arg11)
  b2 := m ((c : Thread nD τ).loc main_arg12)
  g := m ((c : Thread nD τ).loc main_arg13)
  b := m ((c : Thread nD τ).loc main_arg14)

/-- A point of the grid as a batch. -/
def batch (t : Fin cfg0.N) : Fin 4 := ⟨t.val, lt_of_lt_of_eq t.isLt N_0⟩

/-! ### The blocks the windows bring in -/

theorem index0 : ∀ t : Fin grid0.N, win0_0.index t 0 = t.val ∧ win0_0.index t 1 = 0 ∧ win0_0.index t 2 = 0 := by
  decide +kernel
theorem index1 : ∀ t : Fin grid0.N,
    win0_1.index t 0 = t.val ∧ win0_1.index t 1 = 0 ∧ win0_1.index t 2 = 0 ∧ win0_1.index t 3 = 0 := by
  decide +kernel
theorem index2 : ∀ t : Fin grid0.N, win0_2.index t 0 = t.val ∧ win0_2.index t 1 = 0 ∧ win0_2.index t 2 = 0 := by
  decide +kernel
theorem index15 : ∀ t : Fin grid0.N, win0_15.index t 0 = t.val ∧ win0_15.index t 1 = 0 ∧ win0_15.index t 2 = 0 := by
  decide +kernel

theorem emb0 (t : Fin cfg0.N) (s : Fin 256) (d : Fin 128) :
    ((cfg0.win 0).blk t).view.emb (ix3 0 s d) = (ix3 (batch t) s d : S4x256x128.Idx) := by
  obtain ⟨e0, e1, e2⟩ := index0 t
  funext a; apply Fin.ext
  match a with
  | ⟨0, _⟩ => show win0_0.index t 0 * 1 + 1 * 0 = t.val; omega
  | ⟨1, _⟩ => show win0_0.index t 1 * 256 + 1 * s.val = s.val; omega
  | ⟨2, _⟩ => show win0_0.index t 2 * 128 + 1 * d.val = d.val; omega

theorem emb1 (t : Fin cfg0.N) (n : Fin 32) (s : Fin 256) (d : Fin 128) :
    ((cfg0.win 1).blk t).view.emb (ix4 0 n s d) = (ix4 (batch t) n s d : S4x32x256x128.Idx) := by
  obtain ⟨e0, e1, e2, e3⟩ := index1 t
  funext a; apply Fin.ext
  match a with
  | ⟨0, _⟩ => show win0_1.index t 0 * 1 + 1 * 0 = t.val; omega
  | ⟨1, _⟩ => show win0_1.index t 1 * 32 + 1 * n.val = n.val; omega
  | ⟨2, _⟩ => show win0_1.index t 2 * 256 + 1 * s.val = s.val; omega
  | ⟨3, _⟩ => show win0_1.index t 3 * 128 + 1 * d.val = d.val; omega

theorem emb2 (t : Fin cfg0.N) (n : Fin 32) :
    ((cfg0.win 2).blk t).view.emb (ix3 0 n 0) = (ix3 (batch t) n 0 : S4x32x1.Idx) := by
  obtain ⟨e0, e1, e2⟩ := index2 t
  funext a; apply Fin.ext
  match a with
  | ⟨0, _⟩ => show win0_2.index t 0 * 1 + 1 * 0 = t.val; omega
  | ⟨1, _⟩ => show win0_2.index t 1 * 32 + 1 * n.val = n.val; omega
  | ⟨2, _⟩ => show win0_2.index t 2 * 1 + 1 * 0 = 0; omega

theorem emb15 (t : Fin cfg0.N) (s : Fin 256) (h : Fin 128) :
    ((cfg0.win 15).blk t).view.emb (ix3 0 s h) = (ix3 (batch t) s h : S4x256x128.Idx) := by
  obtain ⟨e0, e1, e2⟩ := index15 t
  funext a; apply Fin.ext
  match a with
  | ⟨0, _⟩ => show win0_15.index t 0 * 1 + 1 * 0 = t.val; omega
  | ⟨1, _⟩ => show win0_15.index t 1 * 256 + 1 * s.val = s.val; omega
  | ⟨2, _⟩ => show win0_15.index t 2 * 128 + 1 * h.val = h.val; omega

theorem target_apply (c : Dev nD) (t : Fin cfg0.N) (s : Fin 256) (d : Fin 128) :
    iblk m c 0 t (ix3 0 s d) = (args m c).target (ix3 (batch t) s d) := by
  show V m c main_arg0 (((cfg0.win 0).blk t).view.emb (ix3 0 s d)) = _
  rw [emb0, V_main_arg0]
  rfl

theorem peers_apply (c : Dev nD) (t : Fin cfg0.N) (n : Fin 32) (s : Fin 256) (d : Fin 128) :
    iblk m c 1 t (ix4 0 n s d) = (args m c).peers (ix4 (batch t) n s d) := by
  show V m c main_arg1 (((cfg0.win 1).blk t).view.emb (ix4 0 n s d)) = _
  rw [emb1, V_main_arg1]
  rfl

theorem V_mask (c : Dev nD) :
    V m c main_v8 = (extui 32 (shapeCast S4x32x1 (m ((c : Thread nD τ).loc main_arg2)) shapeCasts_S4x32_S4x32x1) natLt_1_32
      : IVec S4x32x1 32) := by
  unfold V hostOps0
  after_results
  try rfl

theorem mask_apply (c : Dev nD) (t : Fin cfg0.N) (n : Fin 32) :
    iblk m c 2 t (ix3 0 n 0) = ((args m c).mask (ix2 (batch t) n)).setWidth 32 := by
  show V m c main_v8 (((cfg0.win 2).blk t).view.emb (ix3 0 n 0)) = _
  rw [emb2, V_mask]
  unfold args
  pointwise

/-- A matrix's window at block zero places every index where it is, -/
theorem whole_matrix {i : Fin 2 → Nat} (e : i 0 = 0 ∧ i 1 = 0) (h d : Fin 128) {j : S128x128.Idx}
    (hj : ∀ a, (j a).val = i a * S128x128.size a + 1 * ((ix2 h d : S128x128.Idx) a).val) : j = ix2 h d := by
  funext a; apply Fin.ext
  rw [hj]
  match a with
  | ⟨0, _⟩ => show i 0 * 128 + 1 * h.val = h.val; omega
  | ⟨1, _⟩ => show i 1 * 128 + 1 * d.val = d.val; omega

/-- and so does a vector's. -/
theorem whole_vector {i : Fin 2 → Nat} (e : i 0 = 0 ∧ i 1 = 0) (h : Fin 128) {j : S1x128.Idx}
    (hj : ∀ a, (j a).val = i a * S1x128.size a + 1 * ((ix2 0 h : S1x128.Idx) a).val) : j = ix2 0 h := by
  funext a; apply Fin.ext
  rw [hj]
  match a with
  | ⟨0, _⟩ => show i 0 * 1 + 1 * 0 = 0; omega
  | ⟨1, _⟩ => show i 1 * 128 + 1 * h.val = h.val; omega

/-! The weights and the biases come in whole at every point. -/

theorem WQ_apply (c : Dev nD) (t : Fin cfg0.N) (h d : Fin 128) : iblk m c 3 t (ix2 h d) = (args m c).WQ (ix2 h d) := by
  have e := (by decide +kernel : ∀ t : Fin grid0.N, win0_3.index t 0 = 0 ∧ win0_3.index t 1 = 0) t
  have he : ((cfg0.win 3).blk t).view.emb (ix2 h d) = (ix2 h d : S128x128.Idx) := whole_matrix e h d fun _ => rfl
  show V m c main_arg3 (((cfg0.win 3).blk t).view.emb (ix2 h d)) = _
  rw [he, V_main_arg3]
  rfl

theorem WK_apply (c : Dev nD) (t : Fin cfg0.N) (h d : Fin 128) : iblk m c 4 t (ix2 h d) = (args m c).WK (ix2 h d) := by
  have e := (by decide +kernel : ∀ t : Fin grid0.N, win0_4.index t 0 = 0 ∧ win0_4.index t 1 = 0) t
  have he : ((cfg0.win 4).blk t).view.emb (ix2 h d) = (ix2 h d : S128x128.Idx) := whole_matrix e h d fun _ => rfl
  show V m c main_arg5 (((cfg0.win 4).blk t).view.emb (ix2 h d)) = _
  rw [he, V_main_arg5]
  rfl

theorem WV_apply (c : Dev nD) (t : Fin cfg0.N) (h d : Fin 128) : iblk m c 5 t (ix2 h d) = (args m c).WV (ix2 h d) := by
  have e := (by decide +kernel : ∀ t : Fin grid0.N, win0_5.index t 0 = 0 ∧ win0_5.index t 1 = 0) t
  have he : ((cfg0.win 5).blk t).view.emb (ix2 h d) = (ix2 h d : S128x128.Idx) := whole_matrix e h d fun _ => rfl
  show V m c main_arg7 (((cfg0.win 5).blk t).view.emb (ix2 h d)) = _
  rw [he, V_main_arg7]
  rfl

theorem W1_apply (c : Dev nD) (t : Fin cfg0.N) (h d : Fin 128) : iblk m c 6 t (ix2 h d) = (args m c).W1 (ix2 h d) := by
  have e := (by decide +kernel : ∀ t : Fin grid0.N, win0_6.index t 0 = 0 ∧ win0_6.index t 1 = 0) t
  have he : ((cfg0.win 6).blk t).view.emb (ix2 h d) = (ix2 h d : S128x128.Idx) := whole_matrix e h d fun _ => rfl
  show V m c main_arg9 (((cfg0.win 6).blk t).view.emb (ix2 h d)) = _
  rw [he, V_main_arg9]
  rfl

theorem W2_apply (c : Dev nD) (t : Fin cfg0.N) (h d : Fin 128) : iblk m c 7 t (ix2 h d) = (args m c).W2 (ix2 h d) := by
  have e := (by decide +kernel : ∀ t : Fin grid0.N, win0_7.index t 0 = 0 ∧ win0_7.index t 1 = 0) t
  have he : ((cfg0.win 7).blk t).view.emb (ix2 h d) = (ix2 h d : S128x128.Idx) := whole_matrix e h d fun _ => rfl
  show V m c main_arg11 (((cfg0.win 7).blk t).view.emb (ix2 h d)) = _
  rw [he, V_main_arg11]
  rfl

theorem bQ_apply (c : Dev nD) (t : Fin cfg0.N) (h : Fin 128) : iblk m c 8 t (ix2 0 h) = (args m c).bQ (ix1 h) := by
  have e := (by decide +kernel : ∀ t : Fin grid0.N, win0_8.index t 0 = 0 ∧ win0_8.index t 1 = 0) t
  have he : ((cfg0.win 8).blk t).view.emb (ix2 0 h) = (ix2 0 h : S1x128.Idx) := whole_vector e h fun _ => rfl
  have hv : V m c main_v1 = shapeCast S1x128 (m ((c : Thread nD τ).loc main_arg4)) shapeCasts_S128_S1x128 := by
    unfold V hostOps0
    after_results
    try rfl
  show V m c main_v1 (((cfg0.win 8).blk t).view.emb (ix2 0 h)) = _
  rw [he, hv]
  unfold args
  pointwise

theorem bK_apply (c : Dev nD) (t : Fin cfg0.N) (h : Fin 128) : iblk m c 9 t (ix2 0 h) = (args m c).bK (ix1 h) := by
  have e := (by decide +kernel : ∀ t : Fin grid0.N, win0_9.index t 0 = 0 ∧ win0_9.index t 1 = 0) t
  have he : ((cfg0.win 9).blk t).view.emb (ix2 0 h) = (ix2 0 h : S1x128.Idx) := whole_vector e h fun _ => rfl
  have hv : V m c main_v2 = shapeCast S1x128 (m ((c : Thread nD τ).loc main_arg6)) shapeCasts_S128_S1x128 := by
    unfold V hostOps0
    after_results
    try rfl
  show V m c main_v2 (((cfg0.win 9).blk t).view.emb (ix2 0 h)) = _
  rw [he, hv]
  unfold args
  pointwise

theorem bV_apply (c : Dev nD) (t : Fin cfg0.N) (h : Fin 128) : iblk m c 10 t (ix2 0 h) = (args m c).bV (ix1 h) := by
  have e := (by decide +kernel : ∀ t : Fin grid0.N, win0_10.index t 0 = 0 ∧ win0_10.index t 1 = 0) t
  have he : ((cfg0.win 10).blk t).view.emb (ix2 0 h) = (ix2 0 h : S1x128.Idx) := whole_vector e h fun _ => rfl
  have hv : V m c main_v3 = shapeCast S1x128 (m ((c : Thread nD τ).loc main_arg8)) shapeCasts_S128_S1x128 := by
    unfold V hostOps0
    after_results
    try rfl
  show V m c main_v3 (((cfg0.win 10).blk t).view.emb (ix2 0 h)) = _
  rw [he, hv]
  unfold args
  pointwise

theorem b1_apply (c : Dev nD) (t : Fin cfg0.N) (h : Fin 128) : iblk m c 11 t (ix2 0 h) = (args m c).b1 (ix1 h) := by
  have e := (by decide +kernel : ∀ t : Fin grid0.N, win0_11.index t 0 = 0 ∧ win0_11.index t 1 = 0) t
  have he : ((cfg0.win 11).blk t).view.emb (ix2 0 h) = (ix2 0 h : S1x128.Idx) := whole_vector e h fun _ => rfl
  have hv : V m c main_v4 = shapeCast S1x128 (m ((c : Thread nD τ).loc main_arg10)) shapeCasts_S128_S1x128 := by
    unfold V hostOps0
    after_results
    try rfl
  show V m c main_v4 (((cfg0.win 11).blk t).view.emb (ix2 0 h)) = _
  rw [he, hv]
  unfold args
  pointwise

theorem b2_apply (c : Dev nD) (t : Fin cfg0.N) (h : Fin 128) : iblk m c 12 t (ix2 0 h) = (args m c).b2 (ix1 h) := by
  have e := (by decide +kernel : ∀ t : Fin grid0.N, win0_12.index t 0 = 0 ∧ win0_12.index t 1 = 0) t
  have he : ((cfg0.win 12).blk t).view.emb (ix2 0 h) = (ix2 0 h : S1x128.Idx) := whole_vector e h fun _ => rfl
  have hv : V m c main_v5 = shapeCast S1x128 (m ((c : Thread nD τ).loc main_arg12)) shapeCasts_S128_S1x128 := by
    unfold V hostOps0
    after_results
    try rfl
  show V m c main_v5 (((cfg0.win 12).blk t).view.emb (ix2 0 h)) = _
  rw [he, hv]
  unfold args
  pointwise

theorem g_apply (c : Dev nD) (t : Fin cfg0.N) (h : Fin 128) : iblk m c 13 t (ix2 0 h) = (args m c).g (ix1 h) := by
  have e := (by decide +kernel : ∀ t : Fin grid0.N, win0_13.index t 0 = 0 ∧ win0_13.index t 1 = 0) t
  have he : ((cfg0.win 13).blk t).view.emb (ix2 0 h) = (ix2 0 h : S1x128.Idx) := whole_vector e h fun _ => rfl
  have hv : V m c main_v6 = shapeCast S1x128 (m ((c : Thread nD τ).loc main_arg13)) shapeCasts_S128_S1x128 := by
    unfold V hostOps0
    after_results
    try rfl
  show V m c main_v6 (((cfg0.win 13).blk t).view.emb (ix2 0 h)) = _
  rw [he, hv]
  unfold args
  pointwise

theorem b_apply (c : Dev nD) (t : Fin cfg0.N) (h : Fin 128) : iblk m c 14 t (ix2 0 h) = (args m c).b (ix1 h) := by
  have e := (by decide +kernel : ∀ t : Fin grid0.N, win0_14.index t 0 = 0 ∧ win0_14.index t 1 = 0) t
  have he : ((cfg0.win 14).blk t).view.emb (ix2 0 h) = (ix2 0 h : S1x128.Idx) := whole_vector e h fun _ => rfl
  have hv : V m c main_v7 = shapeCast S1x128 (m ((c : Thread nD τ).loc main_arg14)) shapeCasts_S128_S1x128 := by
    unfold V hostOps0
    after_results
    try rfl
  show V m c main_v7 (((cfg0.win 14).blk t).view.emb (ix2 0 h)) = _
  rw [he, hv]
  unfold args
  pointwise

end Cert.Whole
-- ==== Proof.Result.lean ====
/- The kernel's block at a point is the mathematics of that batch, so the whole array is the result. -/
module

public import proofs.«01_k».proof.Proof.Whole

@[expose] public section

set_option maxRecDepth 16384

noncomputable section

namespace Cert.Whole

open Idealize.ShloMosaic Idealize.ShloMosaic.TcCoe Idealize.SL.Sem
open Cert.KernelIdeal Cert.KernelIdeal.Gen Cert.Model Cert.Block
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The queries, the keys, the values and the mask the point works with. -/
theorem query_block (c : Dev nD) (t : Fin cfg0.N) (s : Fin 256) (h : Fin 128) :
    queries (iblk m c 0 t) (iblk m c 3 t) (iblk m c 8 t) (ix2 h s) = (args m c).query (batch t) s h := by
  unfold queries Spec.Args.query Spec.proj
  rw [View.ld_unit_zero (S := S1x128) hz2, View.ld_unit_zero (S := S128x128) hz2, View.ld_unit_zero (S := S1x256x128) hz3,
    query_apply]
  simp only [target_apply, WQ_apply, bQ_apply]

theorem peers_block (c : Dev nD) (t : Fin cfg0.N) (n : Fin 32) (s : Fin 256) (d : Fin 128) :
    peers (iblk m c 1 t) (ix3 n s d) = (args m c).peers (ix4 (batch t) n s d) := by
  unfold peers
  rw [View.ld_unit_zero (S := S1x32x256x128) hz4, ← peers_apply]
  pointwise

theorem key_block (c : Dev nD) (t : Fin cfg0.N) (n : Fin 32) (s : Fin 256) (h : Fin 128) :
    keys (iblk m c 1 t) (iblk m c 4 t) (iblk m c 9 t) n (ix2 h s) = (args m c).key (batch t) n s h := by
  unfold keys Spec.Args.key Spec.proj keyOf
  rw [View.ld_unit_zero (S := S1x128) hz2, View.ld_unit_zero (S := S128x128) hz2]
  pointwise [proj_apply, bias_apply, peers_block, bK_apply, WK_apply]

theorem value_block (c : Dev nD) (t : Fin cfg0.N) (n : Fin 32) (s : Fin 256) (h : Fin 128) :
    vals (iblk m c 1 t) (iblk m c 5 t) (iblk m c 10 t) n (ix2 h s) = (args m c).value (batch t) n s h := by
  unfold vals Spec.Args.value Spec.proj
  rw [View.ld_unit_zero (S := S1x128) hz2, View.ld_unit_zero (S := S128x128) hz2]
  pointwise [proj_apply, bias_apply, peers_block, bV_apply, WV_apply]

theorem mask_block (c : Dev nD) (t : Fin cfg0.N) (n : Fin 32) :
    bits (iblk m c 2 t) (ix2 n 0) = (args m c).mask (ix2 (batch t) n) := by
  unfold bits
  rw [View.ld_unit_zero (S := S1x32x1) hz3, maskOf_apply, mask_apply, cmpi_bit]

/-- The scores the point computes, a row for each lag and peer. -/
abbrev table (c : Dev nD) (t : Fin cfg0.N) : FVec Ideal S160x256 .f32 :=
  allScores (bits (iblk m c 2 t)) (queries (iblk m c 0 t) (iblk m c 3 t) (iblk m c 8 t))
    (keys (iblk m c 1 t) (iblk m c 4 t) (iblk m c 9 t))

theorem table_apply (c : Dev nD) (t : Fin cfg0.N) (s : Fin 256) (n : Fin 32) (l : Fin 5) :
    table m c t (ix2 (finProdFinEquiv (l, n)) s) = (args m c).scores (batch t) s (n, l) := by
  unfold table
  rw [allScores_apply]
  unfold Spec.Args.scores
  congr 1
  · funext h; exact query_block m c t s h
  · funext n s h; exact key_block m c t n s h
  · funext n; exact mask_block m c t n

/-- The weights the point computes: the scores' weights. -/
theorem weights_block (c : Dev nD) (t : Fin cfg0.N) (s : Fin 256) (n : Fin 32) (l : Fin 5) :
    weights (table m c t) (ix2 (finProdFinEquiv (l, n)) s)
      = TopEight.keepWeight ((args m c).scores (batch t) s) (n, l) := by
  rw [weights_apply]
  have e := TopEight.keepWeight_comp ((Equiv.prodComm (Fin 32) (Fin 5)).trans finProdFinEquiv)
    (fun r : Fin 160 => table m c t (ix2 r s)) (n, l)
  refine e.symm.trans (congrArg (fun f => TopEight.keepWeight f (n, l)) ?_)
  funext p
  exact table_apply m c t s p.1 p.2

/-- The weighed values the point computes. -/
theorem context_block (c : Dev nD) (t : Fin cfg0.N) (s : Fin 256) (h : Fin 128) :
    context (weights (table m c t)) (vals (iblk m c 1 t) (iblk m c 5 t) (iblk m c 10 t)) (ix2 h s)
      = (args m c).context (batch t) s h := by
  rw [context_apply]
  simp only [value_block]
  exact Spec.sum_lags (args m c) (batch t) s (fun l n => weights (table m c t) (ix2 (finProdFinEquiv (l, n)) s))
    (fun n l => (args m c).value (batch t) n (Spec.back s l) h) fun l n => weights_block m c t s n l

/-- The block the point stores is the batch's result. -/
theorem block_apply (c : Dev nD) (t : Fin cfg0.N) (s : Fin 256) (h : Fin 128) :
    out0_15 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (ix3 0 s h)
      = (args m c).result (ix3 (batch t) s h) := by
  rw [block_eq, View.canon_unit_zero (S := S1x256x128) hz3]
  simp only [View.ld_unit_zero (S := S1x128) hz2, View.ld_unit_zero (S := S128x128) hz2]
  rw [finish_apply]
  simp only [context_block, W1_apply, W2_apply, b1_apply, b2_apply, g_apply, b_apply]
  rfl

/-- What the point writes back is its block of the result. -/
theorem flushed (c : Dev nD) (t : Fin cfg0.N) :
    (dats m 0 c).flushed 15 t = ((cfg0.win 15).blk t).view.read (Elt Ideal) ((args m c).result) := by
  rw [Cert.KernelIdeal.Value.flushed15]
  funext j
  obtain ⟨s, h, rfl⟩ : ∃ (s : Fin 256) (h : Fin 128), j = (ix3 0 s h : S1x256x128.Idx) :=
    ⟨j 1, j 2, by
      funext a
      fin_cases a
      · exact Subsingleton.elim (α := Fin 1) _ _
      · rfl
      · rfl⟩
  refine (block_apply m c t s h).trans ?_
  exact congrArg (args m c).result (emb15 t s h).symm

/-- The result array after the run. -/
theorem final (c : Dev nD) : (dats m 0 c).arrAt 15 cfg0.N = (args m c).result :=
  (dats m 0 c).arrAt_eq_of_cover 15 ((args m c).result) (fun t _ => flushed m c t) fun (i : S4x256x128.Idx) => by
    let t : Fin cfg0.N := ⟨(i 0).val, lt_of_lt_of_eq (i 0).isLt N_0.symm⟩
    refine ⟨t, flush0_15 t, ?_⟩
    have e : ((cfg0.win 15).blk t).view.emb (ix3 0 (i 1) (i 2)) = i := by
      refine (emb15 t (i 1) (i 2)).trans ?_
      funext a
      fin_cases a <;> rfl
    have h := ((cfg0.win 15).blk t).view.emb_mem_set (ix3 0 (i 1) (i 2))
    rwa [e] at h

end Cert.Whole
-- ==== Proof.Gathers.lean ====
/- What the reference's two gathers read: the peers' frames at the lagged times, and the values at the chosen peers. -/
module

public import proofs.«01_k».proof.Proof.Gen.ReferenceIdeal
public import Idealize.ShloMosaic.Lib.Pointwise
public import Idealize.ShloMosaic.Lib.ValueIdxCore

@[expose] public section

set_option maxRecDepth 16384

noncomputable section

namespace Cert.Reference

open Idealize.ShloMosaic Cert.ReferenceIdeal Cert.ReferenceIdeal.Gen

variable {α : Type}

/-- The gather of the lagged frames reads, of every batch and peer, the frame at the time the index names. -/
theorem gather_time (x : S4x32x256x128.Idx → α) (idx : IVec S5x256x1 32) (b : Fin 4) (n : Fin 32) (l : Fin 5)
    (t : Fin 256) (h : Fin 128) :
    Host.gather gather_S4x32x256x128_S5x256x1_S4x32x5x256x128_014_2_n_n_2_2_4321128 x idx (ix5 b n l t h)
      = x (ix4 b n ⟨min (idx (ix3 l t 0)).toInt.toNat 255, by omega⟩ h) := by
  unfold Host.gather
  congr 1
  funext a
  refine Fin.ext ?_
  match a with
  | ⟨0, _⟩ => show 0 + 0 + b.val = b.val; omega
  | ⟨1, _⟩ => show 0 + 0 + n.val = n.val; omega
  | ⟨2, _⟩ =>
    refine congrArg (fun i => min (idx i).toInt.toNat 255) (?_ : _ = (ix3 l t 0))
    funext c; refine Fin.ext ?_
    match c with
    | ⟨0, _⟩ => rfl
    | ⟨1, _⟩ => rfl
    | ⟨2, _⟩ => rfl
  | ⟨3, _⟩ => show 0 + 0 + h.val = h.val; omega

/-- The gather of the chosen values reads, at each batch and time, the value at the place the index names. -/
theorem gather_chosen (x : S4x256x160x128.Idx → α) (idx : IVec S4x256x8x1 32) (b : Fin 4) (t : Fin 256) (j : Fin 8)
    (h : Fin 128) :
    Host.gather gather_S4x256x160x128_S4x256x8x1_S4x256x8x128_3_2_01_01_2_3_111128 x idx (ix4 b t j h)
      = x (ix4 b t ⟨min (idx (ix4 b t j 0)).toInt.toNat 159, by omega⟩ h) := by
  unfold Host.gather
  congr 1
  funext a
  refine Fin.ext ?_
  match a with
  | ⟨0, _⟩ => show 0 + b.val + 0 = b.val; omega
  | ⟨1, _⟩ => show 0 + t.val + 0 = t.val; omega
  | ⟨2, _⟩ =>
    refine congrArg (fun i => min (idx i).toInt.toNat 159) (?_ : _ = (ix4 b t j 0))
    funext c; refine Fin.ext ?_
    match c with
    | ⟨0, _⟩ => rfl
    | ⟨1, _⟩ => rfl
    | ⟨2, _⟩ => rfl
    | ⟨3, _⟩ => rfl
  | ⟨3, _⟩ => show 0 + 0 + h.val = h.val; omega

end Cert.Reference
-- ==== Proof.Ranking.lean ====
/- The host's choice of the greatest entries of each row: the order it ranks a row in, and what it reads. -/
module

public import proofs.«01_k».proof.Proof.TopEight
public import Idealize.ShloMosaic.Lib.SortFacts
public import Idealize.ShloMosaic.Lib.Pointwise

@[expose] public section

set_option maxRecDepth 16384

noncomputable section

namespace Cert.Ranking

open Idealize.ShloMosaic

/-- Whether a place of a row ranks before another: it holds the greater number, as the host compares them. -/
def before {n : Nat} (f : Fin n → Ideal .f32) (a b : Fin n) : Bool := FloatOps.cmpfTotal .gt (f a) (f b) == 1#1

theorem before_iff {n : Nat} (f : Fin n → EReal) (a b : Fin n) : before f a b = decide (f b < f a) := by
  show ((BitVec.ofBool (decide (f b < f a)) : BitVec 1) == 1#1) = decide (f b < f a)
  by_cases h : f b < f a <;> simp [h]

/-- The place of the `k`-th greatest entry of a row. -/
def order {n : Nat} (h0 : 0 < n) (f : Fin n → EReal) (k : ℕ) : Fin n :=
  if h : k < n then sortedFrom (before f) ⟨k, h⟩ else ⟨0, h0⟩

/-- Ranked so, a row's entries do not increase and every place occurs. -/
theorem sorts {n : Nat} (h0 : 0 < n) (f : Fin n → EReal) : TopEight.Sorts f (order h0 f) where
  onto p := by
    obtain ⟨k, hk⟩ := sortedFrom_surjective (before f) p
    exact ⟨k.val, k.isLt, by rw [order, dif_pos k.isLt]; exact hk⟩
  anti i j hij hj := by
    rcases hij.eq_or_lt with rfl | hlt
    · exact le_rfl
    · have h := sortedFrom_noInversion (before f) (before f)
        (fun a b => by simp only [before_iff, decide_eq_true_eq, decide_eq_false_iff_not, not_lt]; exact le_of_lt)
        (fun a b h => h)
        (fun a b c => by simp only [before_iff, decide_eq_false_iff_not, not_lt]; exact fun h h' => h.trans h')
        ⟨i, hlt.trans hj⟩ ⟨j, hj⟩ hlt
      rw [before_iff, decide_eq_false_iff_not, not_lt] at h
      rw [order, order, dif_pos (hlt.trans hj), dif_pos hj]
      exact h

section Rows

variable {k : Nat} (x : (⟨3, ![4, 256, 160]⟩ : Shape).Idx → EReal)
  (hs : (⟨3, ![4, 256, 160]⟩ : Shape).Slices (fun _ => 0) ⟨3, ![4, 256, k]⟩) (b : Fin 4) (t : Fin 256) (j : Fin k)

/-- A row's index with its last coordinate replaced. -/
theorem along_last (p q : Fin 160) :
    Shape.Idx.along (s := ⟨3, ![4, 256, 160]⟩) (ix3 b t p) 2 q = ix3 b t q := by
  funext a
  match a with
  | ⟨0, _⟩ => rfl
  | ⟨1, _⟩ => rfl
  | ⟨2, _⟩ => rfl

/-- Sorting the rows along the last axis puts at each place what the row's order names. -/
theorem sorted_place (p : Fin 160) :
    sortedFrom (fun q q' => before (fun i => x (Shape.Idx.along (s := ⟨3, ![4, 256, 160]⟩) (ix3 b t p) 2 i)) q q') p
      = order (by decide) (fun p => x (ix3 b t p)) p.val := by
  rw [order, dif_pos p.isLt]
  exact congrArg (fun f : Fin 160 → EReal => sortedFrom (before f) p) (funext fun i => congrArg x (along_last b t p i))

/-- The rows sorted with their places: the pair at an index. -/
theorem sorted_apply (y : (⟨3, ![4, 256, 160]⟩ : Shape).Idx → BitVec 32) (p : Fin 160) :
    (Host.sort2 (α := Ideal .f32) ⟨3, ![4, 256, 160]⟩ 2 (fun l r => FloatOps.cmpfTotal .gt l.1 r.1) x y).1 (ix3 b t p)
        = x (ix3 b t (order (by decide) (fun p => x (ix3 b t p)) p.val))
      ∧ (Host.sort2 (α := Ideal .f32) ⟨3, ![4, 256, 160]⟩ 2 (fun l r => FloatOps.cmpfTotal .gt l.1 r.1) x y).2 (ix3 b t p)
        = y (ix3 b t (order (by decide) (fun p => x (ix3 b t p)) p.val)) := by
  unfold Host.sort2
  rw [dif_pos (show 2 < (⟨3, ![4, 256, 160]⟩ : Shape).rank by decide), ← sorted_place x b t p]
  constructor
  · exact congrArg x (along_last b t p _)
  · exact congrArg y (along_last b t p _)

include hs in
theorem lt_row : j.val < 160 :=
  lt_of_lt_of_le j.isLt (by have h := hs.2 2; exact (Nat.zero_add k) ▸ h)

theorem first_places : (fun a => ⟨0 + ((ix3 b t j : (⟨3, ![4, 256, k]⟩ : Shape).Idx) (a.cast hs.1.symm)).val,
      Nat.lt_of_lt_of_le (Nat.add_lt_add_left (Fin.isLt _) _) (hs.2 a)⟩ : (⟨3, ![4, 256, 160]⟩ : Shape).Idx)
    = ix3 b t ⟨j.val, lt_row hs j⟩ := by
  funext a
  match a with
  | ⟨0, _⟩ => exact Fin.ext (Nat.zero_add _)
  | ⟨1, _⟩ => exact Fin.ext (Nat.zero_add _)
  | ⟨2, _⟩ => exact Fin.ext (Nat.zero_add _)

/-- The `j`-th greatest value of a row. -/
theorem value_apply :
    (Host.topK (α := Ideal .f32) ⟨3, ![4, 256, k]⟩ 2 (FloatOps.cmpfTotal .gt) x hs).1 (ix3 b t j)
      = x (ix3 b t (order (by decide) (fun p => x (ix3 b t p)) j.val)) := by
  unfold Host.topK extractStridedSlice
  exact (congrArg _ (first_places hs b t j)).trans (sorted_apply x b t (fun i => BitVec.ofNat 32 (i 2).val) ⟨j.val, lt_row hs j⟩).1

/-- Its place. -/
theorem place_apply :
    (Host.topK (α := Ideal .f32) ⟨3, ![4, 256, k]⟩ 2 (FloatOps.cmpfTotal .gt) x hs).2 (ix3 b t j)
      = BitVec.ofNat 32 (order (by decide) (fun p => x (ix3 b t p)) j.val).val := by
  unfold Host.topK extractStridedSlice
  exact (congrArg _ (first_places hs b t j)).trans (sorted_apply x b t (fun i => BitVec.ofNat 32 (i 2).val) ⟨j.val, lt_row hs j⟩).2

end Rows

end Cert.Ranking
-- ==== Proof.Reference.lean ====
/- What the reference computes at an index: its queries, keys and values, its scores and their order. -/
module

public import proofs.«01_k».proof.Proof.Gathers
public import proofs.«01_k».proof.Proof.Ranking
public import proofs.«01_k».proof.Proof.Spec
public import proofs.«01_k».proof.Proof.Gen.ReferenceIdeal.Run

@[expose] public section

set_option maxRecDepth 16384

noncomputable section

namespace Cert.Reference

open Idealize.ShloMosaic Idealize.ShloMosaic.StableHlo Cert.ReferenceIdeal Cert.ReferenceIdeal.Gen Cert.ReferenceIdeal.Value
open Cert.Spec (lag back)

variable (V : Valuation τ sig (Elt Ideal))

/-- The arguments the reference is launched with. -/
def args : Spec.Args where
  target := V (Proc.devRef .tc main_arg0)
  peers := V (Proc.devRef .tc main_arg1)
  mask := V (Proc.devRef .tc main_arg2)
  WQ := V (Proc.devRef .tc main_arg3)
  bQ := V (Proc.devRef .tc main_arg4)
  WK := V (Proc.devRef .tc main_arg5)
  bK := V (Proc.devRef .tc main_arg6)
  WV := V (Proc.devRef .tc main_arg7)
  bV := V (Proc.devRef .tc main_arg8)
  W1 := V (Proc.devRef .tc main_arg9)
  b1 := V (Proc.devRef .tc main_arg10)
  W2 := V (Proc.devRef .tc main_arg11)
  b2 := V (Proc.devRef .tc main_arg12)
  g := V (Proc.devRef .tc main_arg13)
  b := V (Proc.devRef .tc main_arg14)

/-! ### The lagged times -/

/-- A lag back from a time, as a word. -/
theorem ago_apply (l : Fin 5) (t : Fin 256) :
    res_main_v5 V (ix2 l t) = BitVec.ofNat 32 t.val - BitVec.ofNat 32 (lag l) := by
  have h : ∀ l : Fin 5, lit0 (S5.rowMajor (ix1 l)) = BitVec.ofNat 32 (lag l) := by decide +kernel
  unfold res_main_v5
  pointwise
  rw [h]
  rfl

/-- The time the lag looks back to, as a word. -/
theorem since_apply (l : Fin 5) (t : Fin 256) :
    res_main_v8 V (ix2 l t) = BitVec.ofNat 32 (back t l).val := by
  have h : ∀ (l : Fin 5) (t : Fin 256),
      IntOp.maxsi 0#32 (BitVec.ofNat 32 t.val - BitVec.ofNat 32 (lag l)) = BitVec.ofNat 32 (back t l).val := by
    decide +kernel
  unfold res_main_v8
  pointwise [ago_apply]
  exact h l t

theorem reached_apply (l : Fin 5) (t : Fin 256) :
    IntOp.cmpi .sge (res_main_v5 V (ix2 l t)) 0#32 = if lag l ≤ t.val then 1#1 else 0#1 := by
  have h : ∀ (l : Fin 5) (t : Fin 256),
      IntOp.cmpi .sge (BitVec.ofNat 32 t.val - BitVec.ofNat 32 (lag l)) 0#32 = if lag l ≤ t.val then 1#1 else 0#1 := by
    decide +kernel
  rw [ago_apply]
  exact h l t

theorem index_kept (l : Fin 5) (t : Fin 256) :
    min (Scalar.select (IntOp.cmpi .slt (BitVec.ofNat 32 (back t l).val) 0#32)
        (IntOp.addi (BitVec.ofNat 32 (back t l).val) 256#32) (BitVec.ofNat 32 (back t l).val)).toInt.toNat 255
      = (back t l).val := by
  have h : ∀ s : Fin 256, min (Scalar.select (IntOp.cmpi .slt (BitVec.ofNat 32 s.val) 0#32)
      (IntOp.addi (BitVec.ofNat 32 s.val) 256#32) (BitVec.ofNat 32 s.val)).toInt.toNat 255 = s.val := by
    decide +kernel
  exact h _

/-- The lagged frames. -/
theorem frame_apply (b : Fin 4) (t : Fin 256) (n : Fin 32) (l : Fin 5) (d : Fin 128) :
    res_main_v16 V (ix5 b t n l d) = (args V).peers (ix4 b n (back t l) d) := by
  unfold res_main_v16
  pointwise [gather_time, since_apply]
  exact congrArg (fun s => (args V).peers (ix4 b n s d)) (Fin.ext (index_kept l t))

/-! ### The scores and their order -/

theorem ninf_eq : (id (constant (F := Ideal) S_ .f32 0xFF800000#32) ix0 : EReal) = ⊥ := by
  show Ideal.ofBits .f32 0xFF800000#32 = ⊥
  simp [Ideal.ofBits, Ideal.ieee]

theorem width_eq : Ideal.ofBits .f32 0x43000000#32 = ((128 : ℝ) : EReal) := by
  simp [Ideal.ofBits, Ideal.ieee]
  rw [← EReal.coe_mul]
  norm_num

/-- Dividing by the square root of the width is scaling by its inverse. -/
theorem scaled (x : EReal) :
    Ideal.div x (Ideal.sqrt (Ideal.ofBits .f32 0x43000000#32)) = x * (((Real.sqrt 128)⁻¹ : ℝ) : EReal) := by
  rw [width_eq, Ideal.sqrt_coe, if_neg (by norm_num), Ideal.div_coe (by positivity), one_div]

/-- The peer and the lag of a place of a row. -/
abbrev place : Fin 160 ≃ Fin 32 × Fin 5 := (finProdFinEquiv (m := 32) (n := 5)).symm

/-- A score masked for its peer and its time. -/
theorem nested (c : BitVec 1) (p : Prop) [Decidable p] (x : EReal) :
    Scalar.select c (Scalar.select (if p then 1#1 else 0#1) x ⊥) ⊥ = if p then if c = 1#1 then x else ⊥ else ⊥ := by
  unfold Scalar.select
  by_cases hp : p <;> by_cases hc : c = 1#1 <;> simp [hp, hc]

/-- The scores of a row. -/
theorem scores_apply (b : Fin 4) (t : Fin 256) (p : Fin 160) :
    res_main_v41 V (ix3 b t p) = (args V).scores b t (place p) := by
  unfold res_main_v41
  pointwise [frame_apply]
  rw [reached_apply, scaled, ninf_eq]
  unfold Spec.Args.scores Spec.score Spec.Args.query Spec.Args.key Spec.proj
  simp only [mul_comm (Spec.Args.WQ _ _), mul_comm (Spec.Args.WK _ _)]
  exact nested _ (lag (place p).2 ≤ t.val) _

/-- The order in which the reference ranks a row's places. -/
abbrev rank (b : Fin 4) (t : Fin 256) : ℕ → Fin 160 :=
  Ranking.order (by decide) fun p => (args V).scores b t (place p)

theorem row_eq (b : Fin 4) (t : Fin 256) :
    (fun p => res_main_v41 V (ix3 b t p)) = fun p => (args V).scores b t (place p) :=
  funext (scores_apply V b t)

/-- The greatest scores of a row, the greatest first. -/
theorem greatest_apply (b : Fin 4) (t : Fin 256) (j : Fin 8) :
    res_main_values V (ix3 b t j) = (args V).scores b t (place (rank V b t j.val)) := by
  unfold res_main_values
  refine (Ranking.value_apply (res_main_v41 V) _ b t j).trans ?_
  rw [row_eq, scores_apply]

/-- Their places. -/
theorem chosen_apply (b : Fin 4) (t : Fin 256) (j : Fin 8) :
    res_main_v63 V (ix4 b t j 0) = BitVec.ofNat 32 (rank V b t j.val).val := by
  unfold res_main_v63
  pointwise
  refine (Ranking.place_apply (res_main_v41 V) _ b t j).trans ?_
  rw [row_eq]

/-- The places are not negative, and lie within the row. -/
theorem index_apply (b : Fin 4) (t : Fin 256) (j : Fin 8) :
    res_main_call6_v4 V (ix4 b t j 0) = BitVec.ofNat 32 (rank V b t j.val).val := by
  have h : ∀ p : Fin 160, Scalar.select (IntOp.cmpi .slt (BitVec.ofNat 32 p.val) 0#32)
      (IntOp.addi (BitVec.ofNat 32 p.val) 160#32) (BitVec.ofNat 32 p.val) = BitVec.ofNat 32 p.val := by
    decide +kernel
  unfold res_main_call6_v4
  pointwise [chosen_apply]
  exact h _

/-! ### The weights -/

theorem drop_row (b b' : Fin 4) (t t' : Fin 256) (j : Fin 8) :
    reducesTo_S4x256x8_S4x256_d2.drop (ix3 b' t' j) = (ix2 b t : S4x256.Idx) ↔ b' = b ∧ t' = t := by
  have e : reducesTo_S4x256x8_S4x256_d2.drop (ix3 b' t' j) = (ix2 b' t' : S4x256.Idx) := by
    funext a
    match a with
    | ⟨0, _⟩ => rfl
    | ⟨1, _⟩ => rfl
  rw [e]
  exact ⟨fun h => ⟨congrFun h 0, congrFun h 1⟩, fun h => by rw [h.1, h.2]⟩

/-- The indices of a row. -/
theorem row_indices (b : Fin 4) (t : Fin 256) :
    (Finset.univ.filter fun i : S4x256x8.Idx => reducesTo_S4x256x8_S4x256_d2.drop i = (ix2 b t : S4x256.Idx))
      = Finset.univ.map ⟨fun j : Fin 8 => (ix3 b t j : S4x256x8.Idx), fun j j' h => congrFun h 2⟩ := by
  ext i
  idx_vars i
  simp only [Finset.mem_filter, Finset.mem_univ, true_and, Finset.mem_map, Function.Embedding.coeFn_mk]
  rw [drop_row]
  constructor
  · rintro ⟨rfl, rfl⟩
    exact ⟨_, rfl⟩
  · rintro ⟨j, h⟩
    exact ⟨(congrFun h 0).symm, (congrFun h 1).symm⟩

/-- A fold over the indices of a row is a fold over its places. -/
theorem fold_row {β : Type} (op : β → β → β) [Std.Commutative op] [Std.Associative op] (a : β) (f : S4x256x8.Idx → β)
    (b : Fin 4) (t : Fin 256)
    {_ : DecidablePred fun i : S4x256x8.Idx => reducesTo_S4x256x8_S4x256_d2.drop i = (ix2 b t : S4x256.Idx)} :
    Finset.fold op a f {i | reducesTo_S4x256x8_S4x256_d2.drop i = (ix2 b t : S4x256.Idx)}
      = Finset.univ.fold op a fun j : Fin 8 => f (ix3 b t j) := by
  have e := Finset.fold_map (op := op) (b := a) (f := f)
    (g := ⟨fun j : Fin 8 => (ix3 b t j : S4x256x8.Idx), fun j j' h => congrFun h 2⟩) (s := Finset.univ)
  rw [← row_indices] at e
  refine Eq.trans ?_ e
  congr

/-- The conjunction of bits is set exactly when all are. -/
theorem fold_andi {ι : Type} (s : Finset ι) (f : ι → BitVec 1) :
    s.fold IntOp.andi 1#1 f = if ∀ i ∈ s, f i = 1#1 then 1#1 else 0#1 := by
  classical
  induction s using Finset.induction_on with
  | empty => simp
  | insert i s hi ih =>
    rw [Finset.fold_insert hi, ih]
    have h : ∀ x : BitVec 1, IntOp.andi x 1#1 = (if x = 1#1 then 1#1 else 0#1) ∧ IntOp.andi x 0#1 = 0#1 := by decide
    by_cases hs : ∀ k ∈ s, f k = 1#1
    · rw [if_pos hs, (h _).1]
      exact if_congr (by rw [Finset.forall_mem_insert]; exact ⟨fun h => ⟨h, hs⟩, And.left⟩) rfl rfl
    · rw [if_neg hs, (h _).2, if_neg]
      exact fun ha => hs fun k hk => ha k (Finset.mem_insert_of_mem hk)

theorem inf_eq : Ideal.ofBits .f32 0x7F800000#32 = ⊤ := by
  simp [Ideal.ofBits, Ideal.ieee]

theorem low_eq : Ideal.ofBits .f32 0xFF800000#32 = ⊥ := by
  simp [Ideal.ofBits, Ideal.ieee]

/-- What stands for an infinite value among the greatest. -/
def least : EReal := Ideal.ofBits .f32 0xCE6E6B28#32

/-- The greatest scores of a row as a sequence. -/
abbrev greatest (b : Fin 4) (t : Fin 256) (k : ℕ) : EReal := (args V).scores b t (place (rank V b t k))

theorem safe_apply (b : Fin 4) (t : Fin 256) (j : Fin 8) :
    res_main_v46 V (ix3 b t j) = TopEight.finite (greatest V b t j.val) least := by
  unfold res_main_v46
  pointwise [greatest_apply, inf_eq]
  rfl

theorem exp_apply (b : Fin 4) (t : Fin 256) (j : Fin 8) :
    res_main_v53 V (ix3 b t j)
      = Ideal.exp (TopEight.finite (greatest V b t j.val) least
          - TopEight.top fun k : Fin 8 => TopEight.finite (greatest V b t k.val) least) := by
  unfold res_main_v53
  pointwise [safe_apply, low_eq]
  rw [max_eq_right bot_le]
  refine congrArg (fun m : EReal => Ideal.exp (_ - m)) ((fold_row max (⊥ : EReal) (res_main_v46 V) b t).trans ?_)
  simp only [safe_apply]
  rfl

/-- The zero or the one that the weights of a row are multiplied by. -/
def live : FVec Ideal S4x256x8 .f32 :=
  broadcastInDim S4x256x8 ![0, 1, 2] bcast_S4x256x1_S4x256x8_0_1_2 (uitofp .f32 (noti (broadcastInDim S4x256x1
    ![0, 1] bcast_S4x256_S4x256x1_0_1 (Host.reduce IntOp.andi (cmpf .oeq (Host.absf (res_main_values V))
    (broadcastInDim S4x256x8 ![] bcast_S_S4x256x8 (constant S_ .f32 0x7F800000#32))) (constantI S_ 1 1#1)
    reducesTo_S4x256x8_S4x256_d2 h_S_))))

/-- It is zero if every one of the greatest scores of the row is infinite, and one if not. -/
theorem live_apply (b : Fin 4) (t : Fin 256) (j : Fin 8) :
    live V (ix3 b t j)
      = if ∀ k : Fin 8, max (greatest V b t k.val) (-greatest V b t k.val) = ⊤ then (0 : EReal) else 1 := by
  have e : ∀ k : Fin 8, (BitVec.ofBool (decide (FloatOps.absf (res_main_values V (ix3 b t k))
      = Ideal.ofBits .f32 0x7F800000#32)) = 1#1) ↔ max (greatest V b t k.val) (-greatest V b t k.val) = ⊤ := by
    intro k
    rw [greatest_apply, inf_eq]
    show BitVec.ofBool (decide (max (greatest V b t k.val) (-greatest V b t k.val) = ⊤)) = 1#1 ↔ _
    by_cases h : max (greatest V b t k.val) (-greatest V b t k.val) = ⊤ <;> simp [h]
  unfold live
  pointwise
  refine (congrArg (fun c : BitVec 1 => (FloatOps.uitofp .f32 (~~~c) : Ideal .f32)) ((fold_row _ _ _ b t).trans
    (fold_andi _ _))).trans ?_
  simp only [e, Finset.mem_univ, true_implies]
  split
  · show (((~~~1#1 : BitVec 1).toNat : ℝ) : EReal) = 0
    simp
  · show (((~~~0#1 : BitVec 1).toNat : ℝ) : EReal) = 1
    simp

/-- Whether the places read lie within the row. -/
def inside : IVec S4x256x8x128 1 :=
  broadcastInDim S4x256x8x128 ![0, 1, 2] bcast_S4x256x8_S4x256x8x128_0_1_2 (Host.reduce IntOp.andi (andi (cmpi
    .sge (res_main_call6_v4 V) (broadcastInDim S4x256x8x1 ![] bcast_S_S4x256x8x1 (constantI S_ 32 0#32)))
    (cmpi .sle (res_main_call6_v4 V) (broadcastInDim S4x256x8x1 ![0, 1, 2, 3]
    bcast_S1x1x1x1_S4x256x8x1_0_1_2_3 (broadcastInDim S1x1x1x1 ![3] bcast_S1_S1x1x1x1_3 (constantI S1 32
    159#32))))) (constantI S_ 1 1#1) reducesTo_S4x256x8x1_S4x256x8_d3 h_S_)

theorem inside_apply (b : Fin 4) (t : Fin 256) (j : Fin 8) (d : Fin 128) : inside V (ix4 b t j d) = 1#1 := by
  have h : ∀ p : Fin 160, IntOp.andi (IntOp.cmpi .sge (BitVec.ofNat 32 p.val) 0#32)
      (IntOp.cmpi .sle (BitVec.ofNat 32 p.val) 159#32) = 1#1 := by decide +kernel
  unfold inside
  pointwise
  refine (fold_andi _ _).trans (if_pos ?_)
  intro i hi
  idx_vars i
  obtain rfl : i3 = 0 := Subsingleton.elim _ _
  rw [index_apply]
  exact h _

/-- Two factors of a product, each replaced by its equal. -/
theorem product {a l l' s s' : EReal} (hl : l = l') (hs : s = s') : a * l * s = a * l' * s' := by rw [hl, hs]

/-- The weighed values as an array. -/
theorem weighed_eq : res_main_v68 V =
    Host.reduceAdd (mulf (broadcastInDim S4x256x8x128 ![0, 1, 2, 3] bcast_S4x256x8x1_S4x256x8x128_0_1_2_3
      (broadcastInDim S4x256x8x1 ![0, 1, 2] bcast_S4x256x8_S4x256x8x1_0_1_2 (mulf (Host.divf (res_main_v53 V)
      (broadcastInDim S4x256x8 ![0, 1, 2] bcast_S4x256x1_S4x256x8_0_1_2 (broadcastInDim S4x256x1 ![0, 1]
      bcast_S4x256_S4x256x1_0_1 (Host.reduceAdd (res_main_v53 V) (constant S_ .f32 0x00000000#32)
      reducesTo_S4x256x8_S4x256_d2 h_S_)))) (live V)))) (select (inside V) (Host.gather
      gather_S4x256x160x128_S4x256x8x1_S4x256x8x128_3_2_01_01_2_3_111128 (shapeCast _ (addf (Host.dotGeneral (φ₁ := .f32) (φ₂ := .f32)
      dot_S4x256x32x5x128_S128x128_S4x256x32x5x128_4_0_0123_1_n_n none (res_main_v16 V) (transpose S128x128
      [1, 0] (V (Proc.devRef .tc main_arg7)) transposes_S128x128_S128x128_1_0)) (broadcastInDim
      S4x256x32x5x128 ![0, 1, 2, 3, 4] bcast_S1x1x1x1x128_S4x256x32x5x128_0_1_2_3_4 (broadcastInDim
      S1x1x1x1x128 ![4] bcast_S128_S1x1x1x1x128_4 (V (Proc.devRef .tc main_arg8)))))
      shapeCasts_S4x256x32x5x128_S4x256x160x128) (res_main_call6_v4 V)) (broadcastInDim S4x256x8x128 ![]
      bcast_S_S4x256x8x128 (constant S_ .f32 0x7FC00000#32)))) (constant S_ .f32 0x00000000#32)
      reducesTo_S4x256x8x128_S4x256x128_d2 h_S_ := rfl

/-- A choice does not depend on how its condition is decided. -/
theorem choice {p : Prop} {i j : Decidable p} {x y : EReal} : @ite _ p i x y = @ite _ p j x y := by
  rw [Subsingleton.elim i j]

set_option maxHeartbeats 800000 in
/-- The values weighed. -/
theorem weighed_apply (b : Fin 4) (t : Fin 256) (h : Fin 128) :
    res_main_v68 V (ix3 b t h)
      = ∑ j : Fin 8, TopEight.sortWeight least (fun k => greatest V b t k.val) j
          * (args V).value b (place (rank V b t j.val)).1 (back t (place (rank V b t j.val)).2) h := by
  have hmin : ∀ p : Fin 160, min (BitVec.ofNat 32 p.val).toInt.toNat 159 = p.val := by decide +kernel
  rw [weighed_eq]
  pointwise [index_apply, gather_chosen, frame_apply, live_apply, inside_apply, exp_apply]
  simp only [hmin]
  unfold Spec.Args.value Spec.proj TopEight.sortWeight
  simp only [mul_comm (Spec.Args.WV _ _)]
  refine Finset.sum_congr (M := EReal) rfl fun j _ => ?_
  refine product ?_ ?_
  · exact choice
  · refine congrArg (fun s : EReal => s + (args V).bV (ix1 h)) ?_
    refine Finset.sum_congr (M := EReal) rfl fun d _ => ?_
    rfl

/-! ### The layers and the normalisation -/

theorem hidden_apply (b : Fin 4) (t : Fin 256) (h : Fin 128) :
    res_main_v73 V (ix3 b t h) = Spec.proj (fun h d => (args V).W1 (ix2 h d)) (fun h => (args V).b1 (ix1 h))
      (fun d => res_main_v68 V (ix3 b t d)) h := by
  unfold res_main_v73 Spec.proj
  pointwise
  simp only [mul_comm (Spec.Args.W1 _ _)]
  rfl

theorem elu_eq (x : EReal) :
    (if 0 < x then x else Ideal.exp (if 0 < x then (id (constant (F := Ideal) S_ .f32 0#32) ix0 : EReal) else x) - 1)
      = Spec.elu x := by
  unfold Spec.elu
  split
  · rfl
  · rename_i hx
    rw [min_eq_left (not_lt.mp hx)]

theorem residual_apply (b : Fin 4) (t : Fin 256) (h : Fin 128) :
    res_main_v80 V (ix3 b t h)
      = Spec.residual (fun h d => (args V).W1 (ix2 h d)) (fun h d => (args V).W2 (ix2 h d)) (fun h => (args V).b1 (ix1 h))
          (fun h => (args V).b2 (ix1 h)) (fun d => res_main_v68 V (ix3 b t d)) h := by
  unfold res_main_v80 Spec.residual
  pointwise
  simp only [elu_eq, hidden_apply]
  unfold Spec.proj
  simp only [mul_comm (Spec.Args.W2 _ _)]
  rfl

/-- The row of the values and the two layers' output added. -/
abbrev total (b : Fin 4) (t : Fin 256) (h : Fin 128) : EReal := res_main_v80 V (ix3 b t h)

theorem mean_apply (b : Fin 4) (t : Fin 256) :
    res_main_v84 V (ix3 b t 0) = Spec.mean (total V b t) := by
  unfold res_main_v84 Spec.mean
  pointwise
  rfl

theorem centred_apply (b : Fin 4) (t : Fin 256) (h : Fin 128) :
    res_main_v86 V (ix3 b t h) = total V b t h - Spec.mean (total V b t) := by
  unfold res_main_v86
  pointwise [mean_apply]

end Cert.Reference
-- ==== Proof.Decided.lean ====
/- What the precondition says: in every row the first nine scores, the greatest first, decrease strictly from a
   value below plus infinity, or all of them are minus infinity. -/
module

public import proofs.«01_k».proof.Proof.Reference
public import proofs.«01_k».proof.Proof.Gen.Pre_no_ties
public import Idealize.ShloMosaic.Lib.ReduceAll

@[expose] public section

set_option maxRecDepth 16384

noncomputable section

namespace Cert.Decided

open Idealize.ShloMosaic Cert.Pre_no_ties Cert.Pre_no_ties.Facts
open Cert.ReferenceIdeal (τ sig main_arg0 main_arg1 main_arg2 main_arg3 main_arg4 main_arg5 main_arg6 main_arg7 main_arg8
  main_arg9 main_arg10 main_arg11 main_arg12 main_arg13 main_arg14)

variable [Cert.Pre_no_ties.Facts]

/-- The nine greatest entries of each row. -/
def nine (x : FVec Ideal S4x256x160 .f32) : FVec Ideal S4x256x9 .f32 :=
  (Host.topK S4x256x9 2 (FloatOps.cmpfTotal .gt) x sliceFits_S4x256x160_S4x256x9).1

/-- The precondition as a test of the scores. -/
def test (x : FVec Ideal S4x256x160 .f32) : IVec S_ 1 :=
  fn_part2 (F := Ideal) (nine x) (extractStridedSlice S4x256x8 ![0, 0, 0] (nine x) slices_S4x256x9_S4x256x8_0_0_0)

/-- Whether the first eight of the nine lie below plus infinity. -/
def below (y : FVec Ideal S4x256x9 .f32) : IVec S4x256x8 1 :=
  cmpf .olt (extractStridedSlice S4x256x8 ![0, 0, 0] y slices_S4x256x9_S4x256x8_0_0_0)
    (broadcastInDim S4x256x8 ![] bcast_S_S4x256x8 (constant S_ .f32 0x7F800000#32))

/-- Whether each of the first eight exceeds the next, or the first is minus infinity. -/
def falling (y : FVec Ideal S4x256x9 .f32) : IVec S4x256x8 1 :=
  ori (cmpf .ogt (extractStridedSlice S4x256x8 ![0, 0, 0] y slices_S4x256x9_S4x256x8_0_0_0)
      (extractStridedSlice S4x256x8 ![0, 0, 1] y slices_S4x256x9_S4x256x8_0_0_1))
    (broadcastInDim S4x256x8 ![0, 1, 2] bcast_S4x256x1_S4x256x8_0_1_2 (cmpf .oeq
      (extractStridedSlice S4x256x1 ![0, 0, 0] (extractStridedSlice S4x256x8 ![0, 0, 0] y slices_S4x256x9_S4x256x8_0_0_0)
        slices_S4x256x8_S4x256x1_0_0_0) (broadcastInDim S4x256x1 ![] bcast_S_S4x256x1 (constant S_ .f32 0xFF800000#32))))

/-- The test is that both hold of every row. -/
theorem test_eq (x : FVec Ideal S4x256x160 .f32) : test x =
    andi (Host.reduce IntOp.andi (below (nine x)) (constantI S_ 1 1#1) reducesTo_S4x256x8_S_d0_1_2 h_S_)
      (Host.reduce IntOp.andi (falling (nine x)) (constantI S_ 1 1#1) reducesTo_S4x256x8_S_d0_1_2 h_S_) := rfl

/-- A proposition whose bit is set. -/
theorem of_bit {p : Prop} {_ : Decidable p} (h : BitVec.ofBool (decide p) = 1#1) : p := by
  by_contra hn
  rw [decide_eq_false hn] at h
  exact absurd h (by decide)

/-- Two propositions the disjunction of whose bits is set. -/
theorem of_or {p q : Prop} {_ : Decidable p} {_ : Decidable q}
    (h : IntOp.ori (BitVec.ofBool (decide p)) (BitVec.ofBool (decide q)) = 1#1) : p ∨ q := by
  by_contra hn
  obtain ⟨h1, h2⟩ := not_or.mp hn
  rw [decide_eq_false h1, decide_eq_false h2] at h
  exact absurd h (by decide)

/-- The first eight of a row lie below plus infinity where the test says so. -/
theorem below_apply (y : FVec Ideal S4x256x9 .f32) (b : Fin 4) (t : Fin 256) (j : Fin 8) (h : below y (ix3 b t j) = 1#1) :
    (y (ix3 b t j.castSucc) : EReal) < ⊤ := by
  unfold below at h
  revert h
  pointwise [Reference.inf_eq]
  exact fun h => of_bit h

/-- An entry exceeds the next, or the row's first is minus infinity, where the test says so. -/
theorem falling_apply (y : FVec Ideal S4x256x9 .f32) (b : Fin 4) (t : Fin 256) (j : Fin 8) (h : falling y (ix3 b t j) = 1#1) :
    (y (ix3 b t j.succ) : EReal) < y (ix3 b t j.castSucc) ∨ (y (ix3 b t 0) : EReal) = ⊥ := by
  unfold falling at h
  revert h
  pointwise [Reference.low_eq]
  have hs : (⟨1 + j.val, by omega⟩ : Fin 9) = j.succ := Fin.ext (Nat.add_comm _ _)
  rw [← hs]
  exact fun h => of_or h

/-- The test decides every row. -/
theorem decided_of_test (x : FVec Ideal S4x256x160 .f32) (h : test x ix0 = 1#1) (b : Fin 4) (t : Fin 256) :
    TopEight.Decided fun k => x (ix3 b t (Ranking.order (by decide) (fun p => x (ix3 b t p)) k)) := by
  have e : ∀ k : Fin 9, nine x (ix3 b t k) = x (ix3 b t (Ranking.order (by decide) (fun p => x (ix3 b t p)) k.val)) :=
    fun k => Ranking.value_apply x _ b t k
  rw [test_eq] at h
  obtain ⟨h1, h2⟩ := IntOp.andi_eq_one.1 h
  haveI : Subsingleton S_.Idx := ⟨fun a a' => funext fun i => i.elim0⟩
  have l := fun j : Fin 8 => below_apply _ b t j (Host.reduce_andi_all _ _ _ _ _ h1 (ix3 b t j))
  have f := fun j : Fin 8 => falling_apply _ b t j (Host.reduce_andi_all _ _ _ _ _ h2 (ix3 b t j))
  by_cases hb : (nine x (ix3 b t 0) : EReal) = ⊥
  · exact Or.inl ((e 0).symm.trans hb)
  · refine Or.inr ⟨lt_of_eq_of_lt (e 0).symm (l 0), fun j hj => ?_⟩
    have hf := (f ⟨j, hj⟩).resolve_right hb
    rw [e, e] at hf
    exact hf

variable (V : Valuation τ sig (Elt Ideal))

/-- The precondition is the test of the scores the reference computes. -/
theorem fn_eq : Cert.Pre_no_ties.fn (F := Ideal) (V (Proc.devRef .tc main_arg0)) (V (Proc.devRef .tc main_arg1))
    (V (Proc.devRef .tc main_arg2)) (V (Proc.devRef .tc main_arg3)) (V (Proc.devRef .tc main_arg4))
    (V (Proc.devRef .tc main_arg5)) (V (Proc.devRef .tc main_arg6)) (V (Proc.devRef .tc main_arg7))
    (V (Proc.devRef .tc main_arg8)) (V (Proc.devRef .tc main_arg9)) (V (Proc.devRef .tc main_arg10))
    (V (Proc.devRef .tc main_arg11)) (V (Proc.devRef .tc main_arg12)) (V (Proc.devRef .tc main_arg13))
    (V (Proc.devRef .tc main_arg14)) = test (Cert.ReferenceIdeal.Value.res_main_v41 V) := rfl

end Cert.Decided
-- ==== Proof.Answer.lean ====
/- The reference's result is the mathematics of `Spec.Args.result`, where the precondition decides the weights. -/
module

public import proofs.«01_k».proof.Proof.Decided

@[expose] public section

set_option maxRecDepth 16384

noncomputable section

namespace Cert.Reference

open Idealize.ShloMosaic Idealize.ShloMosaic.StableHlo Cert.ReferenceIdeal Cert.ReferenceIdeal.Gen Cert.ReferenceIdeal.Value
open Cert.Spec (lag back)

variable (V : Valuation τ sig (Elt Ideal))

/-- The values weighed in the order of their scores are the values weighed place by place. -/
theorem weighed_context (b : Fin 4) (t : Fin 256) (hd : TopEight.Decided (greatest V b t)) (h : Fin 128) :
    res_main_v68 V (ix3 b t h) = (args V).context b t h := by
  rw [weighed_apply]
  refine (TopEight.sum_keepWeight (Ranking.sorts (by decide) fun p => (args V).scores b t (place p)) (by decide) hd least
    fun p => (args V).value b (place p).1 (back t (place p).2) h).symm.trans ?_
  unfold Spec.Args.context
  rw [← Equiv.sum_comp place]
  exact Finset.sum_congr (M := EReal) rfl fun p _ => congrArg
    (fun w : EReal => w * (args V).value b (place p).1 (back t (place p).2) h)
    (TopEight.keepWeight_comp place ((args V).scores b t) p)

/-- The normalisation as an array. -/
def normalised : FVec Ideal S4x256x128 .f32 :=
  addf (Host.divf (mulf (broadcastInDim S4x256x128 ![0, 1, 2] bcast_S1x1x128_S4x256x128_0_1_2 (broadcastInDim
    S1x1x128 ![2] bcast_S128_S1x1x128_2 (V (Proc.devRef .tc main_arg13)))) (subf (res_main_v80 V) (broadcastInDim
    S4x256x128 ![0, 1, 2] bcast_S4x256x1_S4x256x128_0_1_2 (res_main_v84 V)))) (broadcastInDim S4x256x128 ![0, 1, 2]
    bcast_S4x256x1_S4x256x128_0_1_2 (Host.sqrt (addf (Host.divf (broadcastInDim S4x256x1 ![0, 1]
    bcast_S4x256_S4x256x1_0_1 (Host.reduceAdd (mulf (res_main_v86 V) (res_main_v86 V)) (constant S_ .f32
    0x00000000#32) reducesTo_S4x256x128_S4x256_d2 h_S_)) (broadcastInDim S4x256x1 ![] bcast_S_S4x256x1 (constant S_
    .f32 0x43000000#32))) (broadcastInDim S4x256x1 ![] bcast_S_S4x256x1 (constant S_ .f32 0x3727C5AC#32))))))
    (broadcastInDim S4x256x128 ![0, 1, 2] bcast_S1x1x128_S4x256x128_0_1_2 (broadcastInDim S1x1x128 ![2]
    bcast_S128_S1x1x128_2 (V (Proc.devRef .tc main_arg14))))

/-- It normalises the row of the values and the two layers' output added. -/
theorem normalised_apply (b : Fin 4) (t : Fin 256) (h : Fin 128) :
    normalised V (ix3 b t h)
      = Spec.normal (fun h => (args V).g (ix1 h)) (fun h => (args V).b (ix1 h)) (total V b t) h := by
  unfold normalised Spec.normal
  pointwise [mean_apply, centred_apply]
  rfl

/-- Where the weights are decided the reference's result is the mathematics. -/
theorem normalised_eq (hd : ∀ b t, TopEight.Decided (greatest V b t)) : normalised V = (args V).result := by
  funext j
  idx_vars j
  rw [normalised_apply]
  have e : total V j0 j1 = Spec.residual (fun h d => (args V).W1 (ix2 h d)) (fun h d => (args V).W2 (ix2 h d))
      (fun h => (args V).b1 (ix1 h)) (fun h => (args V).b2 (ix1 h)) ((args V).context j0 j1) := by
    funext h
    refine (residual_apply V j0 j1 h).trans ?_
    rw [funext (weighed_context V j0 j1 (hd j0 j1))]
  rw [e]
  rfl

/-- Under the precondition the weights are decided. -/
theorem decided [Cert.Pre_no_ties.Facts] (hp : Decided.test (res_main_v41 V) = fun _ => 1#1) (b : Fin 4) (t : Fin 256) :
    TopEight.Decided (greatest V b t) := by
  have h := Decided.decided_of_test (res_main_v41 V) (congrFun hp ix0) b t
  rw [row_eq] at h
  simp only [scores_apply] at h
  exact h

end Cert.Reference
-- ==== Proof.lean ====
/- The certificate: the frames, the naming of the scale, and that the kernel's and the reference's results are equal.
   The mathematics is in `Spec` (what both compute) and `TopEight` (why the two weightings of the greatest scores
   agree); `Result` shows the kernel's array is `Spec.Args.result`, `Answer` that the reference's is. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_no_ties
public import proofs.«01_k».proof.Proof.Result
public import proofs.«01_k».proof.Proof.Answer
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem

/-- From memories agreeing on the arguments both programs work with the same arguments. -/
theorem args_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0)
        = m ((c.tc : Thread KernelIdeal.nD KernelIdeal.τ).loc KernelIdeal.main_arg0)
      ∧ m' ((c.tc : Thread ReferenceIdeal.nD ReferenceIdeal.τ).loc ReferenceIdeal.main_arg1)
        = m ((c.tc : Thread KernelIdeal.nD KernelIdeal.τ).loc KernelIdeal.main_arg1)
      ∧ m' ((c.tc : Thread ReferenceIdeal.nD ReferenceIdeal.τ).loc ReferenceIdeal.main_arg2)
        = m ((c.tc : Thread KernelIdeal.nD KernelIdeal.τ).loc KernelIdeal.main_arg2)
      ∧ m' ((c.tc : Thread ReferenceIdeal.nD ReferenceIdeal.τ).loc ReferenceIdeal.main_arg3)
        = m ((c.tc : Thread KernelIdeal.nD KernelIdeal.τ).loc KernelIdeal.main_arg3)
      ∧ m' ((c.tc : Thread ReferenceIdeal.nD ReferenceIdeal.τ).loc ReferenceIdeal.main_arg4)
        = m ((c.tc : Thread KernelIdeal.nD KernelIdeal.τ).loc KernelIdeal.main_arg4)
      ∧ m' ((c.tc : Thread ReferenceIdeal.nD ReferenceIdeal.τ).loc ReferenceIdeal.main_arg5)
        = m ((c.tc : Thread KernelIdeal.nD KernelIdeal.τ).loc KernelIdeal.main_arg5)
      ∧ m' ((c.tc : Thread ReferenceIdeal.nD ReferenceIdeal.τ).loc ReferenceIdeal.main_arg6)
        = m ((c.tc : Thread KernelIdeal.nD KernelIdeal.τ).loc KernelIdeal.main_arg6)
      ∧ m' ((c.tc : Thread ReferenceIdeal.nD ReferenceIdeal.τ).loc ReferenceIdeal.main_arg7)
        = m ((c.tc : Thread KernelIdeal.nD KernelIdeal.τ).loc KernelIdeal.main_arg7)
      ∧ m' ((c.tc : Thread ReferenceIdeal.nD ReferenceIdeal.τ).loc ReferenceIdeal.main_arg8)
        = m ((c.tc : Thread KernelIdeal.nD KernelIdeal.τ).loc KernelIdeal.main_arg8)
      ∧ m' ((c.tc : Thread ReferenceIdeal.nD ReferenceIdeal.τ).loc ReferenceIdeal.main_arg9)
        = m ((c.tc : Thread KernelIdeal.nD KernelIdeal.τ).loc KernelIdeal.main_arg9)
      ∧ m' ((c.tc : Thread ReferenceIdeal.nD ReferenceIdeal.τ).loc ReferenceIdeal.main_arg10)
        = m ((c.tc : Thread KernelIdeal.nD KernelIdeal.τ).loc KernelIdeal.main_arg10)
      ∧ m' ((c.tc : Thread ReferenceIdeal.nD ReferenceIdeal.τ).loc ReferenceIdeal.main_arg11)
        = m ((c.tc : Thread KernelIdeal.nD KernelIdeal.τ).loc KernelIdeal.main_arg11)
      ∧ m' ((c.tc : Thread ReferenceIdeal.nD ReferenceIdeal.τ).loc ReferenceIdeal.main_arg12)
        = m ((c.tc : Thread KernelIdeal.nD KernelIdeal.τ).loc KernelIdeal.main_arg12)
      ∧ m' ((c.tc : Thread ReferenceIdeal.nD ReferenceIdeal.τ).loc ReferenceIdeal.main_arg13)
        = m ((c.tc : Thread KernelIdeal.nD KernelIdeal.τ).loc KernelIdeal.main_arg13)
      ∧ m' ((c.tc : Thread ReferenceIdeal.nD ReferenceIdeal.τ).loc ReferenceIdeal.main_arg14)
        = m ((c.tc : Thread KernelIdeal.nD KernelIdeal.τ).loc KernelIdeal.main_arg14)) :
    Reference.args (launchContents m' c) = Whole.args m c := by
  obtain ⟨h0, h1, h2, h3, h4, h5, h6, h7, h8, h9, h10, h11, h12, h13, h14⟩ := h
  unfold Reference.args Whole.args
  congr

/-- The kernel and the reference end with equal results. -/
theorem algebraic : Cert.algebraic_KernelIdeal_ReferenceIdeal_pre_no_ties := by
  intro m g m' g' hpre hargs
  refine ⟨fun c => (Whole.args m c).result, (KernelIdeal.Value.run_blocks m g).mono fun r h c =>
    ⟨(h c).1.trans (Whole.final m c), (h c).2⟩, (ReferenceIdeal.Value.run m' g').mono fun r h c => ⟨(h c).1.trans ?_, (h c).2⟩⟩
  have hp := hpre c
  obtain ⟨h0, h1, h2, h3, h4, h5, h6, h7, h8, h9, h10, h11, h12, h13, h14⟩ := hargs c
  rw [← h0, ← h1, ← h2, ← h3, ← h4, ← h5, ← h6, ← h7, ← h8, ← h9, ← h10, ← h11, ← h12, ← h13, ← h14] at hp
  refine (Reference.normalised_eq (launchContents m' c)
    (Reference.decided (launchContents m' c) ((Decided.fn_eq (launchContents m' c)).symm.trans hp))).trans ?_
  exact congrArg Spec.Args.result (args_eq m m' c (hargs c))

/-- The reference runs, leaves its arguments unchanged and has no semaphores. -/
theorem reference_frame : Cert.quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

/-- Everything claimed. -/
theorem claim : Cert.Claim :=
  ⟨Cert.Kernel.Gen.facts, Cert.KernelIdeal.Gen.facts, Cert.ReferenceIdeal.Gen.facts, Cert.Pre_no_ties.Gen.facts,
    fun m ρ _ => Cert.Kernel.Gen.frame m ρ, fun m ρ _ => Cert.KernelIdeal.Gen.frame m ρ,
    fun m ρ _ => Cert.KernelIdeal.Gen.frame m ρ, reference_frame,
    fun m ρ _ => reference_frame m ρ trivial, IdealRules.named_const.statement _ _ _ _ _ rfl, algebraic⟩

end Cert.Proof

end
